-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S1 : Shape := ⟨1, ![1]⟩
abbrev S2x256x4096 : Shape := ⟨3, ![2, 256, 4096]⟩
abbrev S256x4096 : Shape := ⟨2, ![256, 4096]⟩
abbrev S192x4096 : Shape := ⟨2, ![192, 4096]⟩
abbrev S64x4096 : Shape := ⟨2, ![64, 4096]⟩
abbrev S2 : Shape := ⟨1, ![2]⟩
abbrev S6 : Shape := ⟨1, ![6]⟩
abbrev S_ : Shape := ⟨0, ![]⟩
abbrev S1x256x4096 : Shape := ⟨3, ![1, 256, 4096]⟩
abbrev S512x256 : Shape := ⟨2, ![512, 256]⟩
abbrev S256x256 : Shape := ⟨2, ![256, 256]⟩
abbrev S1x192x4096 : Shape := ⟨3, ![1, 192, 4096]⟩
abbrev S192x256 : Shape := ⟨2, ![192, 256]⟩
abbrev S64x256 : Shape := ⟨2, ![64, 256]⟩

abbrev nBuf : Space → Nat
  | .hbm => 5
  | .vmem => 23
  | .smem => 2
  | _ => 0

abbrev bufTy : (tb : Table) → Fin (tcTables nBuf tb) → BufTy
  | .hbm, ⟨0, _⟩ => ⟨S512x4096, .fp8e4m3⟩
  | .hbm, ⟨1, _⟩ => ⟨S4096x256, .fp8e4m3⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .fp8e4m3⟩
  | .local _ .vmem, ⟨1, _⟩ => ⟨S4096x256, .fp8e4m3⟩
  | .local _ .vmem, ⟨2, _⟩ => ⟨S4096x256, .f32⟩
  | .local _ .vmem, ⟨3, _⟩ => ⟨S2x256x4096, .fp8e4m3⟩
  | .local _ .vmem, ⟨4, _⟩ => ⟨S4096x256, .bf16⟩
  | .local _ .vmem, ⟨5, _⟩ => ⟨S2x256x4096, .fp8e4m3⟩
  | .local _ .vmem, ⟨6, _⟩ => ⟨S256x4096, .fp8e4m3⟩
  | .local _ .vmem, ⟨7, _⟩ => ⟨S256x4096, .fp8e4m3⟩
  | .local _ .vmem, ⟨8, _⟩ => ⟨S256x4096, .fp8e4m3⟩
  | .local _ .vmem, ⟨9, _⟩ => ⟨S256x4096, .fp8e4m3⟩
  | .local _ .vmem, ⟨10, _⟩ => ⟨S256x4096, .fp8e4m3⟩
  | .local _ .vmem, ⟨11, _⟩ => ⟨S256x4096, .fp8e4m3⟩
  | .local _ .vmem, ⟨12, _⟩ => ⟨S192x4096, .fp8e4m3⟩
  | .local _ .vmem, ⟨13, _⟩ => ⟨S256x4096, .fp8e4m3⟩
  | .local _ .vmem, ⟨14, _⟩ => ⟨S256x4096, .fp8e4m3⟩
  | .local _ .vmem, ⟨15, _⟩ => ⟨S192x4096, .fp8e4m3⟩
  | .local _ .vmem, ⟨16, _⟩ => ⟨S2x256x4096, .fp8e4m3⟩
  | .local _ .vmem, ⟨17, _⟩ => ⟨S64x4096, .fp8e4m3⟩
  | .local _ .vmem, ⟨18, _⟩ => ⟨S64x4096, .fp8e4m3⟩
  | .local _ .vmem, ⟨19, _⟩ => ⟨S192x4096, .fp8e4m3⟩
  | .local _ .vmem, ⟨20, _⟩ => ⟨S192x4096, .fp8e4m3⟩
  | .local _ .vmem, ⟨21, _⟩ => ⟨S64x4096, .fp8e4m3⟩
  | .local _ .vmem, ⟨22, _⟩ => ⟨S64x4096, .fp8e4m3⟩
  | .local _ .smem, ⟨0, _⟩ => ⟨S1, .f32⟩
  | .local _ .smem, ⟨1, _⟩ => ⟨S1, .f32⟩
  | _, _ => ⟨S512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_16 : BitVec 32 := 1#32
  let v34 : BitVec 32 := Scalar.muli v28 c1_i32_16
  let v35 : BitVec 32 := Scalar.addi c0_i32_17 v34
  v35.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_19 : BitVec 32 := 1#32
  let v36 : BitVec 32 := Scalar.muli v24 c1_i32_19
  let v37 : BitVec 32 := Scalar.addi c0_i32_20 v36
  v37.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_22 : BitVec 32 := 1#32
  let v38 : BitVec 32 := Scalar.muli v30 c1_i32_22
  let v39 : BitVec 32 := Scalar.addi c0_i32_23 v38
  v39.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_35 : BitVec 32 := 1#32
  let v48 : BitVec 32 := Scalar.muli v30 c1_i32_35
  let v49 : BitVec 32 := Scalar.addi c0_i32_36 v48
  v49.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_44 : BitVec 32 := 1#32
  let v58 : BitVec 32 := Scalar.muli v24 c1_i32_44
  let v59 : BitVec 32 := Scalar.addi c0_i32_45 v58
  v59.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_51 : BitVec 32 := 1#32
  let v66 : BitVec 32 := Scalar.muli v28 c1_i32_51
  let v67 : BitVec 32 := Scalar.addi c0_i32_52 v66
  v67.toNat
def k0_dev7 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_62 : BitVec 32 := 1#32
  let v79 : BitVec 32 := Scalar.muli v30 c1_i32_62
  let v80 : BitVec 32 := Scalar.addi c0_i32_63 v79
  v80.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_71 : BitVec 32 := 1#32
  let v89 : BitVec 32 := Scalar.muli v24 c1_i32_71
  let v90 : BitVec 32 := Scalar.addi c0_i32_72 v89
  v90.toNat
def k0_dev9 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_78 : BitVec 32 := 1#32
  let v97 : BitVec 32 := Scalar.muli v28 c1_i32_78
  let v98 : BitVec 32 := Scalar.addi c0_i32_79 v97
  v98.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v113 : BitVec 32 := Scalar.muli v2 c512_i32
  let v121 : Index := Scalar.indexCast v113
  let c0_91 : Index := 0#32
  ![v121.toNat, 0]
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_109 : BitVec 32 := 1#32
  let v141 : BitVec 32 := Scalar.muli v24 c1_i32_109
  let v142 : BitVec 32 := Scalar.addi c0_i32_110 v141
  v142.toNat
def k0_off2 (d0 : Dev nD) (c3_i32_93 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_92 : BitVec 32 := 4#32
  let v123 : BitVec 32 := Scalar.muli v19 c4_i32_92
  let c4_i32_5 : BitVec 32 := 4#32
  let v20 : BitVec 32 := Scalar.remsi v2 c4_i32_5
  let v124 : BitVec 32 := Scalar.addi v20 c3_i32_93
  let c4_i32_94 : BitVec 32 := 4#32
  let v125 : BitVec 32 := Scalar.remsi v124 c4_i32_94
  let v126 : BitVec 32 := Scalar.addi v123 v125
  let c512_i32_117 : BitVec 32 := 512#32
  let v152 : BitVec 32 := Scalar.muli v126 c512_i32_117
  let v160 : Index := Scalar.indexCast v152
  let c0_122 : Index := 0#32
  ![v160.toNat, 0]
def k0_dev11 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_146 : BitVec 32 := 1#32
  let v185 : BitVec 32 := Scalar.muli v28 c1_i32_146
  let v186 : BitVec 32 := Scalar.addi c0_i32_147 v185
  v186.toNat
def k0_off3 (d0 : Dev nD) (c1_i32_96 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_95 : BitVec 32 := 4#32
  let v127 : BitVec 32 := Scalar.muli v19 c4_i32_95
  let c4_i32_5 : BitVec 32 := 4#32
  let v20 : BitVec 32 := Scalar.remsi v2 c4_i32_5
  let v128 : BitVec 32 := Scalar.addi v20 c1_i32_96
  let c4_i32_97 : BitVec 32 := 4#32
  let v129 : BitVec 32 := Scalar.remsi v128 c4_i32_97
  let v130 : BitVec 32 := Scalar.addi v127 v129
  let c512_i32_153 : BitVec 32 := 512#32
  let v196 : BitVec 32 := Scalar.muli v130 c512_i32_153
  let c256_i32 : BitVec 32 := 256#32
  let v197 : BitVec 32 := Scalar.addi v196 c256_i32
  let v205 : Index := Scalar.indexCast v197
  let c0_158 : Index := 0#32
  ![v205.toNat, 0]
def k0_dev12 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_206 : BitVec 32 := 1#32
  let v251 : BitVec 32 := Scalar.muli v24 c1_i32_206
  let v252 : BitVec 32 := Scalar.addi c0_i32_207 v251
  v252.toNat
def k0_dev13 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_211 : BitVec 32 := 1#32
  let v257 : BitVec 32 := Scalar.muli v24 c1_i32_211
  let v258 : BitVec 32 := Scalar.addi c0_i32_212 v257
  v258.toNat
def k0_dev14 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_218 : BitVec 32 := 1#32
  let v265 : BitVec 32 := Scalar.muli v28 c1_i32_218
  let v266 : BitVec 32 := Scalar.addi c0_i32_219 v265
  v266.toNat
def k0_dev15 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_224 : BitVec 32 := 1#32
  let v273 : BitVec 32 := Scalar.muli v28 c1_i32_224
  let v274 : BitVec 32 := Scalar.addi c0_i32_225 v273
  v274.toNat
def k0_dev16 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_228 : BitVec 32 := 1#32
  let v279 : BitVec 32 := Scalar.muli v30 c1_i32_228
  let v280 : BitVec 32 := Scalar.addi c0_i32_229 v279
  v280.toNat
def k0_dev17 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_232 : BitVec 32 := 1#32
  let v285 : BitVec 32 := Scalar.muli v30 c1_i32_232
  let v286 : BitVec 32 := Scalar.addi c0_i32_233 v285
  v286.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c512_i32_237 : BitVec 32 := 512#32
  let v293 : BitVec 32 := Scalar.muli v30 c512_i32_237
  let v301 : Index := Scalar.indexCast v293
  let c0_242 : Index := 0#32
  ![v301.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c512_i32_246 : BitVec 32 := 512#32
  let v305 : BitVec 32 := Scalar.muli v30 c512_i32_246
  let c256_i32_247 : BitVec 32 := 256#32
  let v306 : BitVec 32 := Scalar.addi v305 c256_i32_247
  let v314 : Index := Scalar.indexCast v306
  let c0_252 : Index := 0#32
  ![v314.toNat, 0]
def k0_dev18 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_260 : BitVec 32 := 1#32
  let v320 : BitVec 32 := Scalar.muli v30 c1_i32_260
  let v321 : BitVec 32 := Scalar.addi c0_i32_261 v320
  v321.toNat
def k0_dev19 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_11 : BitVec 32 := 4#32
  let v29 : BitVec 32 := Scalar.addi v2 c4_i32_11
  let c8_i32_12 : BitVec 32 := 8#32
  let v30 : BitVec 32 := Scalar.remsi v29 c8_i32_12
  let c1_i32_279 : BitVec 32 := 1#32
  let v343 : BitVec 32 := Scalar.muli v30 c1_i32_279
  let v344 : BitVec 32 := Scalar.addi c0_i32_280 v343
  v344.toNat
def k0_off6 (d0 : Dev nD) (c3_i32_292 : BitVec 32) (c64_i32 : BitVec 32) : Fin 2 → Nat :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c1_i32_13 v19
  let c4_i32_14 : BitVec 32 := 4#32
  let v32 : BitVec 32 := Scalar.muli v31 c4_i32_14
  let c4_i32_5 : BitVec 32 := 4#32
  let v20 : BitVec 32 := Scalar.remsi v2 c4_i32_5
  let v363 : BitVec 32 := Scalar.addi v20 c3_i32_292
  let c4_i32_293 : BitVec 32 := 4#32
  let v364 : BitVec 32 := Scalar.remsi v363 c4_i32_293
  let v365 : BitVec 32 := Scalar.addi v32 v364
  let c512_i32_320 : BitVec 32 := 512#32
  let v390 : BitVec 32 := Scalar.muli v365 c512_i32_320
  let v391 : BitVec 32 := Scalar.addi v390 c64_i32
  let v399 : Index := Scalar.indexCast v391
  let c0_325 : Index := 0#32
  ![v399.toNat, 0]
def k0_off6_at (r : Fin 2) : BitVec 32 × BitVec 32 :=
  if r.val < 1 then
    (3#32, 64#32)
  else
    (1#32, 256#32)
def k0_off7 (d0 : Dev nD) (c3_i32_292 : BitVec 32) : Fin 2 → Nat :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c1_i32_13 v19
  let c4_i32_14 : BitVec 32 := 4#32
  let v32 : BitVec 32 := Scalar.muli v31 c4_i32_14
  let c4_i32_5 : BitVec 32 := 4#32
  let v20 : BitVec 32 := Scalar.remsi v2 c4_i32_5
  let v363 : BitVec 32 := Scalar.addi v20 c3_i32_292
  let c4_i32_293 : BitVec 32 := 4#32
  let v364 : BitVec 32 := Scalar.remsi v363 c4_i32_293
  let v365 : BitVec 32 := Scalar.addi v32 v364
  let c512_i32_328 : BitVec 32 := 512#32
  let v402 : BitVec 32 := Scalar.muli v365 c512_i32_328
  let c256_i32_329 : BitVec 32 := 256#32
  let v403 : BitVec 32 := Scalar.addi v402 c256_i32_329
  let v411 : Index := Scalar.indexCast v403
  let c0_334 : Index := 0#32
  ![v411.toNat, 0]
def k0_off8 (d0 : Dev nD) (c1_i32_294 : BitVec 32) : Fin 2 → Nat :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c1_i32_13 v19
  let c4_i32_14 : BitVec 32 := 4#32
  let v32 : BitVec 32 := Scalar.muli v31 c4_i32_14
  let c4_i32_5 : BitVec 32 := 4#32
  let v20 : BitVec 32 := Scalar.remsi v2 c4_i32_5
  let v366 : BitVec 32 := Scalar.addi v20 c1_i32_294
  let c4_i32_295 : BitVec 32 := 4#32
  let v367 : BitVec 32 := Scalar.remsi v366 c4_i32_295
  let v368 : BitVec 32 := Scalar.addi v32 v367
  let c512_i32_337 : BitVec 32 := 512#32
  let v414 : BitVec 32 := Scalar.muli v368 c512_i32_337
  let v422 : Index := Scalar.indexCast v414
  let c0_342 : Index := 0#32
  ![v422.toNat, 0]
def k0_off9 (d0 : Dev nD) : Fin 2 → Nat :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c1_i32_13 v19
  let c4_i32_14 : BitVec 32 := 4#32
  let v32 : BitVec 32 := Scalar.muli v31 c4_i32_14
  let c4_i32_5 : BitVec 32 := 4#32
  let v20 : BitVec 32 := Scalar.remsi v2 c4_i32_5
  let c3_i32_292 : BitVec 32 := 3#32
  let v363 : BitVec 32 := Scalar.addi v20 c3_i32_292
  let c4_i32_293 : BitVec 32 := 4#32
  let v364 : BitVec 32 := Scalar.remsi v363 c4_i32_293
  let v365 : BitVec 32 := Scalar.addi v32 v364
  let c512_i32_362 : BitVec 32 := 512#32
  let v445 : BitVec 32 := Scalar.muli v365 c512_i32_362
  let v453 : Index := Scalar.indexCast v445
  let c0_367 : Index := 0#32
  ![v453.toNat, 0]
def k0_off10 (d0 : Dev nD) : Fin 2 → Nat :=
  let c1_i32_13 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v31 : BitVec 32 := Scalar.subi c1_i32_13 v19
  let c4_i32_14 : BitVec 32 := 4#32
  let v32 : BitVec 32 := Scalar.muli v31 c4_i32_14
  let c4_i32_5 : BitVec 32 := 4#32
  let v20 : BitVec 32 := Scalar.remsi v2 c4_i32_5
  let c1_i32_294 : BitVec 32 := 1#32
  let v366 : BitVec 32 := Scalar.addi v20 c1_i32_294
  let c4_i32_295 : BitVec 32 := 4#32
  let v367 : BitVec 32 := Scalar.remsi v366 c4_i32_295
  let v368 : BitVec 32 := Scalar.addi v32 v367
  let c512_i32_370 : BitVec 32 := 512#32
  let v456 : BitVec 32 := Scalar.muli v368 c512_i32_370
  let c256_i32_371 : BitVec 32 := 256#32
  let v457 : BitVec 32 := Scalar.addi v456 c256_i32_371
  let c192_i32 : BitVec 32 := 192#32
  let v458 : BitVec 32 := Scalar.addi v457 c192_i32
  let v466 : Index := Scalar.indexCast v458
  let c0_376 : Index := 0#32
  ![v466.toNat, 0]
abbrev stage0_0 : Fin 1 → Memref sig .tc .vmem S512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Xfers.lean ====
/-
# The mesh, the buffers and the sixteen transfers of the kernel

Eight devices sit in two planes of four; inside a plane they form a ring. `rgt` and `lft` are the ring neighbours,
`zee` the device at the same place of the other plane. Each device starts with its own 512 rows of `x`, in two halves of
256 (`xcM`, slots 0 and 1), and the sixteen transfers `Xf` carry all other rows to it. This file names the devices, the
memrefs, the two ends of each transfer and the semaphores it signals.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring.Trips
public import Idealize.ShloMosaic.Lib.Tactic

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The devices -/

/-- The next device of the plane's ring. -/
def rgt (c : Dev nD) : Dev nD := ⟨c.val / 4 * 4 + (c.val + 1) % 4, by have := c.isLt; simp only [nD] at *; omega⟩
/-- The previous device of the plane's ring. -/
def lft (c : Dev nD) : Dev nD := ⟨c.val / 4 * 4 + (c.val + 3) % 4, by have := c.isLt; simp only [nD] at *; omega⟩
/-- The device at the same place of the other plane. -/
def zee (c : Dev nD) : Dev nD := ⟨(c.val + 4) % 8, Nat.mod_lt _ (by decide)⟩

theorem lft_rgt (c : Dev nD) : lft (rgt c) = c := by revert c; decide
theorem rgt_lft (c : Dev nD) : rgt (lft c) = c := by revert c; decide
theorem zee_zee (c : Dev nD) : zee (zee c) = c := by revert c; decide
theorem zee_rgt (c : Dev nD) : zee (rgt c) = rgt (zee c) := by revert c; decide
theorem zee_lft (c : Dev nD) : zee (lft c) = lft (zee c) := by revert c; decide

/-! ## The memrefs -/

abbrev xM : Memref sig .tc .vmem S512x4096 .fp8e4m3 := Memref.whole cc0_stg0_0
abbrev wM : Memref sig .tc .vmem S4096x256 .fp8e4m3 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x256 .f32 := Memref.whole cc0_stg4_0
abbrev xcM : Memref sig .tc .vmem S2x256x4096 .fp8e4m3 := Memref.whole cc0_scratch0
abbrev wbM : Memref sig .tc .vmem S4096x256 .bf16 := Memref.whole cc0_scratch1
abbrev zbM : Memref sig .tc .vmem S2x256x4096 .fp8e4m3 := Memref.whole cc0_scratch2
abbrev tr1M : Memref sig .tc .vmem S256x4096 .fp8e4m3 := Memref.whole cc0_scratch3
abbrev br1M : Memref sig .tc .vmem S256x4096 .fp8e4m3 := Memref.whole cc0_scratch4
abbrev tr2M : Memref sig .tc .vmem S256x4096 .fp8e4m3 := Memref.whole cc0_scratch5
abbrev tl1M : Memref sig .tc .vmem S256x4096 .fp8e4m3 := Memref.whole cc0_scratch6
abbrev bl1M : Memref sig .tc .vmem S256x4096 .fp8e4m3 := Memref.whole cc0_scratch7
abbrev bl2M : Memref sig .tc .vmem S256x4096 .fp8e4m3 := Memref.whole cc0_scratch8
abbrev braM : Memref sig .tc .vmem S192x4096 .fp8e4m3 := Memref.whole cc0_scratch9
abbrev brbM : Memref sig .tc .vmem S256x4096 .fp8e4m3 := Memref.whole cc0_scratch10
abbrev blaM : Memref sig .tc .vmem S256x4096 .fp8e4m3 := Memref.whole cc0_scratch11
abbrev blbM : Memref sig .tc .vmem S192x4096 .fp8e4m3 := Memref.whole cc0_scratch12
abbrev czM : Memref sig .tc .vmem S2x256x4096 .fp8e4m3 := Memref.whole cc0_scratch13
abbrev c2rM : Memref sig .tc .vmem S64x4096 .fp8e4m3 := Memref.whole cc0_scratch14
abbrev c2lM : Memref sig .tc .vmem S64x4096 .fp8e4m3 := Memref.whole cc0_scratch15
abbrev sbrM : Memref sig .tc .vmem S192x4096 .fp8e4m3 := Memref.whole cc0_scratch16
abbrev sblM : Memref sig .tc .vmem S192x4096 .fp8e4m3 := Memref.whole cc0_scratch17
abbrev scrM : Memref sig .tc .vmem S64x4096 .fp8e4m3 := Memref.whole cc0_scratch18
abbrev sclM : Memref sig .tc .vmem S64x4096 .fp8e4m3 := Memref.whole cc0_scratch19

/-- The rectangles of the two slots of a `2×256×4096` buffer. -/
abbrev rs0 : Rect S2x256x4096 := Rect.unit (s := S2x256x4096) ![0, 0, 0] S1x256x4096.size inb_S2x256x4096_S1x256x4096_0_0_0
abbrev rs1 : Rect S2x256x4096 := Rect.unit (s := S2x256x4096) ![1, 0, 0] S1x256x4096.size inb_S2x256x4096_S1x256x4096_1_0_0

/-- Slot 0, and slot 1, of a `2×256×4096` buffer as a `256×4096` memref. -/
abbrev sl0 (M : Memref sig .tc .vmem S2x256x4096 .fp8e4m3) : Memref sig .tc .vmem S256x4096 .fp8e4m3 :=
  (M.slice rs0 (fun _ => rfl)).squeeze S256x4096 squeezes_S1x256x4096_S256x4096
abbrev sl1 (M : Memref sig .tc .vmem S2x256x4096 .fp8e4m3) : Memref sig .tc .vmem S256x4096 .fp8e4m3 :=
  (M.slice rs1 (fun _ => rfl)).squeeze S256x4096 squeezes_S1x256x4096_S256x4096

/-! ## The transfers -/

/-- The sixteen transfers. `z0 z1`: the own halves to the other plane. `r0 r1 r2`: the two halves to the right, the top
    half one step further. `l0 l1 l2`: the same to the left, the bottom half one step further. `bra brb`, `bla blb`: rows of
    the other plane to the right and to the left. `cr cl`, `c2r c2l`: rows of the ring to the other plane. -/
inductive Xf where
  | z0 | z1 | r0 | r1 | r2 | l0 | l1 | l2 | bra | brb | bla | blb | cr | cl | c2r | c2l
  deriving DecidableEq

/-- All the transfers, in one list. -/
def allXf : List Xf := [.z0, .z1, .r0, .r1, .r2, .l0, .l1, .l2, .bra, .brb, .bla, .blb, .cr, .cl, .c2r, .c2l]

instance : Fintype Xf := ⟨⟨allXf, by decide⟩, fun k => by cases k <;> decide⟩

/-- The shape a transfer moves. -/
@[reducible] def shp : Xf → Shape
  | .bra => S192x4096 | .blb => S192x4096 | .c2r => S64x4096 | .c2l => S64x4096
  | .z0 => S256x4096 | .z1 => S256x4096 | .r0 => S256x4096 | .r1 => S256x4096 | .r2 => S256x4096 | .l0 => S256x4096 | .l1 => S256x4096
  | .l2 => S256x4096 | .brb => S256x4096 | .bla => S256x4096 | .cr => S256x4096 | .cl => S256x4096

/-- The memref a transfer reads, on the sending device. -/
@[reducible] def srcM : (k : Xf) → Memref sig .tc .vmem (shp k) .fp8e4m3
  | .z0 => sl0 xcM | .z1 => sl1 xcM | .r0 => sl0 xcM | .r1 => sl1 xcM | .r2 => tr1M | .l0 => sl0 xcM | .l1 => sl1 xcM | .l2 => bl1M
  | .bra => sbrM | .brb => sl1 zbM | .bla => sl0 zbM | .blb => sblM | .cr => tr2M | .cl => bl2M | .c2r => scrM | .c2l => sclM

/-- The memref a transfer writes, on the receiving device. -/
@[reducible] def dstM : (k : Xf) → Memref sig .tc .vmem (shp k) .fp8e4m3
  | .z0 => sl0 zbM | .z1 => sl1 zbM | .r0 => tr1M | .r1 => br1M | .r2 => tr2M | .l0 => tl1M | .l1 => bl1M | .l2 => bl2M
  | .bra => braM | .brb => brbM | .bla => blaM | .blb => blbM | .cr => sl0 czM | .cl => sl1 czM | .c2r => c2rM | .c2l => c2lM

/-- The device a transfer is sent to. -/
@[reducible] def tgt : Xf → Dev nD → Dev nD
  | .z0 => zee | .z1 => zee | .r0 => rgt | .r1 => rgt | .r2 => rgt | .l0 => lft | .l1 => lft | .l2 => lft
  | .bra => rgt | .brb => rgt | .bla => lft | .blb => lft | .cr => zee | .cl => zee | .c2r => zee | .c2l => zee

/-- The device a transfer comes from. -/
@[reducible] def org : Xf → Dev nD → Dev nD
  | .z0 => zee | .z1 => zee | .r0 => lft | .r1 => lft | .r2 => lft | .l0 => rgt | .l1 => rgt | .l2 => rgt
  | .bra => lft | .brb => lft | .bla => rgt | .blb => rgt | .cr => zee | .cl => zee | .c2r => zee | .c2l => zee

theorem org_tgt (k : Xf) (c : Dev nD) : org k (tgt k c) = c := by
  cases k <;> first | exact zee_zee c | exact lft_rgt c | exact rgt_lft c
theorem tgt_org (k : Xf) (c : Dev nD) : tgt k (org k c) = c := by
  cases k <;> first | exact zee_zee c | exact lft_rgt c | exact rgt_lft c

/-! ## The semaphores -/

/-- The runtime's barrier semaphore of collective id 0. -/
abbrev barS : Sem sig := (SemArray.scalar (sig.barrier 0 rfl) : Sems sig S_).sem

abbrev at20 (A : DmaSems sig S2) : DmaSem sig := ((A.slice (Rect.unit (s := S2) ![0] S1.size inb_S2_S1_0)).squeeze S_ squeezes_S1_S_).sem
abbrev at21 (A : DmaSems sig S2) : DmaSem sig := ((A.slice (Rect.unit (s := S2) ![1] S1.size inb_S2_S1_1)).squeeze S_ squeezes_S1_S_).sem
abbrev at60 (A : DmaSems sig S6) : DmaSem sig := ((A.slice (Rect.unit (s := S6) ![0] S1.size inb_S6_S1_0)).squeeze S_ squeezes_S1_S_).sem
abbrev at61 (A : DmaSems sig S6) : DmaSem sig := ((A.slice (Rect.unit (s := S6) ![1] S1.size inb_S6_S1_1)).squeeze S_ squeezes_S1_S_).sem
abbrev at62 (A : DmaSems sig S6) : DmaSem sig := ((A.slice (Rect.unit (s := S6) ![2] S1.size inb_S6_S1_2)).squeeze S_ squeezes_S1_S_).sem
abbrev at63 (A : DmaSems sig S6) : DmaSem sig := ((A.slice (Rect.unit (s := S6) ![3] S1.size inb_S6_S1_3)).squeeze S_ squeezes_S1_S_).sem
abbrev at64 (A : DmaSems sig S6) : DmaSem sig := ((A.slice (Rect.unit (s := S6) ![4] S1.size inb_S6_S1_4)).squeeze S_ squeezes_S1_S_).sem
abbrev at65 (A : DmaSems sig S6) : DmaSem sig := ((A.slice (Rect.unit (s := S6) ![5] S1.size inb_S6_S1_5)).squeeze S_ squeezes_S1_S_).sem

/-- The DMA semaphore a transfer signals on the sending device. -/
@[reducible] def sndS : Xf → DmaSem sig
  | .z0 => at20 cc0_scratch20 | .z1 => at21 cc0_scratch20
  | .r0 => at60 cc0_scratch22 | .r1 => at61 cc0_scratch22 | .r2 => at62 cc0_scratch22
  | .l0 => at63 cc0_scratch22 | .l1 => at64 cc0_scratch22 | .l2 => at65 cc0_scratch22
  | .bra => at20 cc0_scratch24 | .brb => at21 cc0_scratch24 | .bla => at20 cc0_scratch26 | .blb => at21 cc0_scratch26
  | .cr => at20 cc0_scratch28 | .cl => at21 cc0_scratch28 | .c2r => at20 cc0_scratch30 | .c2l => at21 cc0_scratch30

/-- The DMA semaphore a transfer signals on the receiving device. -/
@[reducible] def rcvS : Xf → DmaSem sig
  | .z0 => at20 cc0_scratch21 | .z1 => at21 cc0_scratch21
  | .r0 => at60 cc0_scratch23 | .r1 => at61 cc0_scratch23 | .r2 => at62 cc0_scratch23
  | .l0 => at63 cc0_scratch23 | .l1 => at64 cc0_scratch23 | .l2 => at65 cc0_scratch23
  | .bra => at20 cc0_scratch25 | .brb => at21 cc0_scratch25 | .bla => at20 cc0_scratch27 | .blb => at21 cc0_scratch27
  | .cr => at20 cc0_scratch29 | .cl => at21 cc0_scratch29 | .c2r => at20 cc0_scratch31 | .c2l => at21 cc0_scratch31

abbrev barCell (c : Dev nD) : GSem nD τ sig := ((c : Thread nD τ), .reg barS)
abbrev sndCell (k : Xf) (c : Dev nD) : GSem nD τ sig := ((c : Thread nD τ), .dma (sndS k))
abbrev rcvCell (k : Xf) (c : Dev nD) : GSem nD τ sig := ((c : Thread nD τ), .dma (rcvS k))

/-- What a semaphore is for: the barrier, the sending end of a transfer, its receiving end, or none of these. -/
inductive Role where
  | bar | snd (k : Xf) | rcv (k : Xf) | none
  deriving DecidableEq

/-- The role of the DMA semaphore of number `n`. -/
def dmaRole : ℕ → Role
  | 5 => .snd .z0 | 6 => .snd .z1 | 7 => .rcv .z0 | 8 => .rcv .z1
  | 9 => .snd .r0 | 10 => .snd .r1 | 11 => .snd .r2 | 12 => .snd .l0 | 13 => .snd .l1 | 14 => .snd .l2
  | 15 => .rcv .r0 | 16 => .rcv .r1 | 17 => .rcv .r2 | 18 => .rcv .l0 | 19 => .rcv .l1 | 20 => .rcv .l2
  | 21 => .snd .bra | 22 => .snd .brb | 23 => .rcv .bra | 24 => .rcv .brb
  | 25 => .snd .bla | 26 => .snd .blb | 27 => .rcv .bla | 28 => .rcv .blb
  | 29 => .snd .cr | 30 => .snd .cl | 31 => .rcv .cr | 32 => .rcv .cl
  | 33 => .snd .c2r | 34 => .snd .c2l | 35 => .rcv .c2r | 36 => .rcv .c2l
  | _ => .none

/-- The role of a semaphore. -/
def role : SemLoc sig → Role
  | .reg s => if s = barS then .bar else .none
  | .dma q => dmaRole q.val

theorem role_bar : role (.reg barS) = .bar := by decide
theorem role_snd (k : Xf) : role (.dma (sndS k)) = .snd k := by revert k; decide
theorem role_rcv (k : Xf) : role (.dma (rcvS k)) = .rcv k := by revert k; decide

/-- The credit a transfer's semaphores are signalled. -/
abbrev amt (k : Xf) : ℕ := (dstM k).view.dmaCredit
theorem amt_pos (k : Xf) : 0 < amt k := View.dmaCredit_pos _ (by cases k <;> decide)
theorem amt_src (k : Xf) : (srcM k).view.dmaCredit = amt k := by cases k <;> rfl

/-! ## The device chains of the program -/

theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = zee c := by revert c; decide +kernel
theorem dev4_eq (c : Dev nD) : (⟨k0_dev4 c, k0_dev4_lt c⟩ : Dev nD) = tgt .z0 c := by revert c; decide +kernel
theorem dev5_eq (c : Dev nD) : (⟨k0_dev5 c, k0_dev5_lt c⟩ : Dev nD) = tgt .r0 c := by revert c; decide +kernel
theorem dev6_eq (c : Dev nD) : (⟨k0_dev6 c, k0_dev6_lt c⟩ : Dev nD) = tgt .l0 c := by revert c; decide +kernel
theorem dev7_eq (c : Dev nD) : (⟨k0_dev7 c, k0_dev7_lt c⟩ : Dev nD) = tgt .z1 c := by revert c; decide +kernel
theorem dev8_eq (c : Dev nD) : (⟨k0_dev8 c, k0_dev8_lt c⟩ : Dev nD) = tgt .r1 c := by revert c; decide +kernel
theorem dev9_eq (c : Dev nD) : (⟨k0_dev9 c, k0_dev9_lt c⟩ : Dev nD) = tgt .l1 c := by revert c; decide +kernel
theorem dev10_eq (c : Dev nD) : (⟨k0_dev10 c, k0_dev10_lt c⟩ : Dev nD) = tgt .r2 c := by revert c; decide +kernel
theorem dev11_eq (c : Dev nD) : (⟨k0_dev11 c, k0_dev11_lt c⟩ : Dev nD) = tgt .l2 c := by revert c; decide +kernel
theorem dev12_eq (c : Dev nD) : (⟨k0_dev12 c, k0_dev12_lt c⟩ : Dev nD) = tgt .bra c := by revert c; decide +kernel
theorem dev13_eq (c : Dev nD) : (⟨k0_dev13 c, k0_dev13_lt c⟩ : Dev nD) = tgt .brb c := by revert c; decide +kernel
theorem dev14_eq (c : Dev nD) : (⟨k0_dev14 c, k0_dev14_lt c⟩ : Dev nD) = tgt .bla c := by revert c; decide +kernel
theorem dev15_eq (c : Dev nD) : (⟨k0_dev15 c, k0_dev15_lt c⟩ : Dev nD) = tgt .blb c := by revert c; decide +kernel
theorem dev16_eq (c : Dev nD) : (⟨k0_dev16 c, k0_dev16_lt c⟩ : Dev nD) = tgt .c2r c := by revert c; decide +kernel
theorem dev17_eq (c : Dev nD) : (⟨k0_dev17 c, k0_dev17_lt c⟩ : Dev nD) = tgt .c2l c := by revert c; decide +kernel
theorem dev18_eq (c : Dev nD) : (⟨k0_dev18 c, k0_dev18_lt c⟩ : Dev nD) = tgt .cr c := by revert c; decide +kernel
theorem dev19_eq (c : Dev nD) : (⟨k0_dev19 c, k0_dev19_lt c⟩ : Dev nD) = tgt .cl c := by revert c; decide +kernel

end Cert.AllGather
-- ==== Proof.Sched.lean ====
/-
# What every buffer holds, and the protocol of the semaphores

The contents each buffer has when it is read, as terms in the devices' own blocks of `x` and `w`, and the one-round
schedule: each device's barrier cell has three duties (its two ring neighbours and the other plane), each end of a
transfer one. A neighbour's barrier signal hands over the buffers the device will write there; a transfer's receiving cell
hands over the buffer with the rows that landed, its sending cell the rows lent to it.
-/
module

public import proofs.«01_k».proof.Proof.Xfers

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the transfers' (duties `Fin 3`) -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block of `x`, of `w`, and the two scales, as staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

/-- The rows of device `c`'s block: the first 256 and the last 256. -/
def top (c : Dev nD) : Vec F S256x4096 .fp8e4m3 :=
  (xM : Memref sig .tc .vmem S512x4096 .fp8e4m3).view.readAt (Elt F)
    (Rect.unit (s := S512x4096) ![0, 0] S256x4096.size inb_S512x4096_S256x4096_0_0).toLoadRect (xstg m c)
def bot (c : Dev nD) : Vec F S256x4096 .fp8e4m3 :=
  (xM : Memref sig .tc .vmem S512x4096 .fp8e4m3).view.readAt (Elt F)
    (Rect.unit (s := S512x4096) ![256, 0] S256x4096.size inb_S512x4096_S256x4096_256_0).toLoadRect (xstg m c)

/-- A `2×256×4096` buffer whose slot 0 is `a` and slot 1 is `b`. -/
def two {α : Type} (a b : S256x4096.Idx → α) : S2x256x4096.Idx → α :=
  fun i => if (i 0).val = 0 then a (fun k => i k.succ) else b (fun k => i k.succ)

theorem two_zero {α : Type} (a b : S256x4096.Idx → α) (i : S2x256x4096.Idx) (h : (i 0).val = 0) :
    two a b i = a (fun k => i k.succ) := if_pos h
theorem two_one {α : Type} (a b : S256x4096.Idx → α) (i : S2x256x4096.Idx) (h : (i 0).val = 1) :
    two a b i = b (fun k => i k.succ) := if_neg (by omega)

/-- The own rows in two slots; -/
def xcC (c : Dev nD) : S2x256x4096.Idx → Elt F .fp8e4m3 := two (top m c) (bot m c)
/-- the other plane's; -/
def zbC (c : Dev nD) : S2x256x4096.Idx → Elt F .fp8e4m3 := xcC m (zee c)
/-- the ring's. -/
def tr1C (c : Dev nD) : Vec F S256x4096 .fp8e4m3 := top m (lft c)
def br1C (c : Dev nD) : Vec F S256x4096 .fp8e4m3 := bot m (lft c)
def tr2C (c : Dev nD) : Vec F S256x4096 .fp8e4m3 := top m (lft (lft c))
def tl1C (c : Dev nD) : Vec F S256x4096 .fp8e4m3 := top m (rgt c)
def bl1C (c : Dev nD) : Vec F S256x4096 .fp8e4m3 := bot m (rgt c)
def bl2C (c : Dev nD) : Vec F S256x4096 .fp8e4m3 := bot m (rgt (rgt c))

/-- The staged pieces: the first 64 rows of `tr1C`, the last 64 of `bl1C`, -/
def scrC (c : Dev nD) : Vec F S64x4096 .fp8e4m3 :=
  k0_pay6 ((tr1M : Memref sig .tc .vmem S256x4096 .fp8e4m3).view.readAt (Elt F)
    (Rect.unit (s := S256x4096) ![0, 0] S64x4096.size inb_S256x4096_S64x4096_0_0).toLoadRect (tr1C m c))
def sclC (c : Dev nD) : Vec F S64x4096 .fp8e4m3 :=
  k0_pay9 ((bl1M : Memref sig .tc .vmem S256x4096 .fp8e4m3).view.readAt (Elt F)
    (Rect.unit (s := S256x4096) ![192, 0] S64x4096.size inb_S256x4096_S64x4096_192_0).toLoadRect (bl1C m c))
/-- the last 192 rows of the other plane's top half, the first 192 of its bottom half. -/
def sbrC (c : Dev nD) : Vec F S192x4096 .fp8e4m3 :=
  k0_pay12 ((zbM : Memref sig .tc .vmem S2x256x4096 .fp8e4m3).view.readAt (Elt F)
    (Rect.unit (s := S2x256x4096) ![0, 64, 0] S1x192x4096.size inb_S2x256x4096_S1x192x4096_0_64_0).toLoadRect (zbC m c))
def sblC (c : Dev nD) : Vec F S192x4096 .fp8e4m3 :=
  k0_pay13 ((zbM : Memref sig .tc .vmem S2x256x4096 .fp8e4m3).view.readAt (Elt F)
    (Rect.unit (s := S2x256x4096) ![1, 0, 0] S1x192x4096.size inb_S2x256x4096_S1x192x4096_1_0_0).toLoadRect (zbC m c))

def braC (c : Dev nD) : Vec F S192x4096 .fp8e4m3 := sbrC m (lft c)
def brbC (c : Dev nD) : Vec F S256x4096 .fp8e4m3 := bot m (zee (lft c))
def blaC (c : Dev nD) : Vec F S256x4096 .fp8e4m3 := top m (zee (rgt c))
def blbC (c : Dev nD) : Vec F S192x4096 .fp8e4m3 := sblC m (rgt c)
def czC (c : Dev nD) : S2x256x4096.Idx → Elt F .fp8e4m3 := two (tr2C m (zee c)) (bl2C m (zee c))
def c2rC (c : Dev nD) : Vec F S64x4096 .fp8e4m3 := scrC m (zee c)
def c2lC (c : Dev nD) : Vec F S64x4096 .fp8e4m3 := sclC m (zee c)

/-- The block of `w` widened, which every product reads. -/
def wbC (c : Dev nD) : Vec F S4096x256 .bf16 := k0_pay4 (wstg m c)

/-! ## The two ends of a transfer -/

/-- What the memref a transfer reads sits on, on the sending device. -/
def srcC : (k : Xf) → (c : Dev nD) → Buf (Elt F) ((srcM k).view.loc (c : Thread nD τ))
  | .z0, c => xcC m c | .z1, c => xcC m c | .r0, c => xcC m c | .r1, c => xcC m c | .r2, c => tr1C m c
  | .l0, c => xcC m c | .l1, c => xcC m c | .l2, c => bl1C m c
  | .bra, c => sbrC m c | .brb, c => zbC m c | .bla, c => zbC m c | .blb, c => sblC m c
  | .cr, c => tr2C m c | .cl, c => bl2C m c | .c2r, c => scrC m c | .c2l, c => sclC m c

/-- What the memref a transfer writes sits on, on the receiving device, once the transfer has landed. -/
def dstC : (k : Xf) → (c : Dev nD) → Buf (Elt F) ((dstM k).view.loc (c : Thread nD τ))
  | .z0, c => zbC m c | .z1, c => zbC m c | .r0, c => tr1C m c | .r1, c => br1C m c | .r2, c => tr2C m c
  | .l0, c => tl1C m c | .l1, c => bl1C m c | .l2, c => bl2C m c
  | .bra, c => braC m c | .brb, c => brbC m c | .bla, c => blaC m c | .blb, c => blbC m c
  | .cr, c => czC m c | .cl, c => czC m c | .c2r, c => c2rC m c | .c2l, c => c2lC m c

/-- The share of its source a transfer is lent: a third of an own half (three transfers read it), half of a buffer that is
    read meanwhile, all of a staged piece. -/
def shr : Xf → PosShare TreeShare
  | .z0 => fullShare.left | .r0 => fullShare.right.left | .l0 => fullShare.right.right
  | .z1 => fullShare.left | .r1 => fullShare.right.left | .l1 => fullShare.right.right
  | .r2 => fullShare.left | .l2 => fullShare.left | .brb => fullShare.left | .bla => fullShare.left
  | .cr => fullShare.left | .cl => fullShare.left
  | .bra => fullShare | .blb => fullShare | .c2r => fullShare | .c2l => fullShare

theorem slot0_read (M : Memref sig .tc .vmem S2x256x4096 .fp8e4m3) (f : M.view.ty.Contents (Elt F)) (a b : Vec F S256x4096 .fp8e4m3)
    (h : M.view.read (Elt F) f = two a b) : (sl0 M).view.read (Elt F) f = a := by
  rw [Memref.read_squeeze_slice M rs0 (fun _ => rfl) squeezes_S1x256x4096_S256x4096 shapeCasts_S1x256x4096_S256x4096 f]
  funext i
  rw [shapeCast_dropUnit_apply]
  show M.view.read (Elt F) f (rs0.emb _) = _
  rw [h, two_zero _ _ _ rfl]
  refine congrArg a (Shape.idx_ext₂ ?_ ?_)
  · show 0 + 1 * (i 0).val = _; omega
  · show 0 + 1 * (i 1).val = _; omega

theorem slot1_read (M : Memref sig .tc .vmem S2x256x4096 .fp8e4m3) (f : M.view.ty.Contents (Elt F)) (a b : Vec F S256x4096 .fp8e4m3)
    (h : M.view.read (Elt F) f = two a b) : (sl1 M).view.read (Elt F) f = b := by
  rw [Memref.read_squeeze_slice M rs1 (fun _ => rfl) squeezes_S1x256x4096_S256x4096 shapeCasts_S1x256x4096_S256x4096 f]
  funext i
  rw [shapeCast_dropUnit_apply]
  show M.view.read (Elt F) f (rs1.emb _) = _
  rw [h, two_one _ _ _ rfl]
  refine congrArg b (Shape.idx_ext₂ ?_ ?_)
  · show 0 + 1 * (i 0).val = _; omega
  · show 0 + 1 * (i 1).val = _; omega

/-- What a transfer writes on the receiving device is what it reads on the sending one. -/
theorem landed (k : Xf) (c : Dev nD) : (dstM k).view.read (Elt F) (dstC m k (tgt k c)) = (srcM k).view.read (Elt F) (srcC m k c) := by
  cases k
  case z0 =>
    exact (slot0_read zbM (zbC m (zee c)) (top m c) (bot m c) (by show xcC m (zee (zee c)) = _; rw [zee_zee]; rfl)).trans
      (slot0_read xcM (xcC m c) (top m c) (bot m c) rfl).symm
  case z1 =>
    exact (slot1_read zbM (zbC m (zee c)) (top m c) (bot m c) (by show xcC m (zee (zee c)) = _; rw [zee_zee]; rfl)).trans
      (slot1_read xcM (xcC m c) (top m c) (bot m c) rfl).symm
  case r0 => exact Eq.trans (by show top m (lft (rgt c)) = _; rw [lft_rgt]) (slot0_read xcM (xcC m c) (top m c) (bot m c) rfl).symm
  case r1 => exact Eq.trans (by show bot m (lft (rgt c)) = _; rw [lft_rgt]) (slot1_read xcM (xcC m c) (top m c) (bot m c) rfl).symm
  case r2 => show top m (lft (lft (rgt c))) = top m (lft c); rw [lft_rgt]
  case l0 => exact Eq.trans (by show top m (rgt (lft c)) = _; rw [rgt_lft]) (slot0_read xcM (xcC m c) (top m c) (bot m c) rfl).symm
  case l1 => exact Eq.trans (by show bot m (rgt (lft c)) = _; rw [rgt_lft]) (slot1_read xcM (xcC m c) (top m c) (bot m c) rfl).symm
  case l2 => show bot m (rgt (rgt (lft c))) = bot m (rgt c); rw [rgt_lft]
  case bra => show sbrC m (lft (rgt c)) = sbrC m c; rw [lft_rgt]
  case brb => exact Eq.trans (by show bot m (zee (lft (rgt c))) = _; rw [lft_rgt]) (slot1_read zbM (zbC m c) (top m (zee c)) (bot m (zee c)) rfl).symm
  case bla => exact Eq.trans (by show top m (zee (rgt (lft c))) = _; rw [rgt_lft]) (slot0_read zbM (zbC m c) (top m (zee c)) (bot m (zee c)) rfl).symm
  case blb => show sblC m (rgt (lft c)) = sblC m c; rw [rgt_lft]
  case cr => exact (slot0_read czM (czC m (zee c)) (tr2C m c) (bl2C m c) (by show two (tr2C m (zee (zee c))) (bl2C m (zee (zee c))) = _; rw [zee_zee])).trans rfl
  case cl => exact (slot1_read czM (czC m (zee c)) (tr2C m c) (bl2C m c) (by show two (tr2C m (zee (zee c))) (bl2C m (zee (zee c))) = _; rw [zee_zee])).trans rfl
  case c2r => show scrC m (zee (zee c)) = scrC m c; rw [zee_zee]
  case c2l => show sclC m (zee (zee c)) = sclC m c; rw [zee_zee]

/-! ## Points-to assertions -/

/-- Device `c` holds share `q` of what memref `M` covers, at contents `f`. -/
def pts {sp : Space} {s : Shape} {e : EltTy} (M : Memref sig .tc sp s e) (c : Dev nD) (q : PosShare TreeShare) (f : Buf (Elt F) (M.view.loc (c : Thread nD τ))) : sProp 𝕄 :=
  M.view.loc (c : Thread nD τ) ↦[M.view.set]{q} f

/-- Device `c` holds all of what `M` covers, at contents nobody has named. -/
def free {sp : Space} {s : Shape} {e : EltTy} (M : Memref sig .tc sp s e) (c : Dev nD) : sProp 𝕄 := iprop(∃ f, pts M c fullShare f)

omit [FloatOps F] in
instance pts_storable {sp : Space} {s : Shape} {e : EltTy} (M : Memref sig .tc sp s e) (c : Dev nD) (q) (f) :
    BI.Storable (upEmb : UEmb _ 𝕄) (pts (F := F) M c q f) := by unfold pts; infer_instance
omit [FloatOps F] in
instance free_storable {sp : Space} {s : Shape} {e : EltTy} (M : Memref sig .tc sp s e) (c : Dev nD) :
    BI.Storable (upEmb : UEmb _ 𝕄) (free (F := F) M c) := by unfold free; infer_instance

/-- The buffer a transfer of device `c` writes, on the device it is sent to. -/
def room (k : Xf) (c : Dev nD) : sProp 𝕄 := free (dstM k) (tgt k c)
/-- What lands. -/
def rcvPay (k : Xf) (c : Dev nD) : sProp 𝕄 := pts (dstM k) c fullShare (dstC m k c)
/-- What is lent and comes back. -/
def sndPay (k : Xf) (c : Dev nD) : sProp 𝕄 := pts (srcM k) c (shr k) (srcC m k c)

omit [FloatOps F] in
instance room_storable (k : Xf) (c : Dev nD) : BI.Storable (upEmb : UEmb _ 𝕄) (room (F := F) k c) := by unfold room; infer_instance
instance rcvPay_storable (k : Xf) (c : Dev nD) : BI.Storable (upEmb : UEmb _ 𝕄) (rcvPay (F := F) m k c) := by unfold rcvPay; infer_instance
instance sndPay_storable (k : Xf) (c : Dev nD) : BI.Storable (upEmb : UEmb _ 𝕄) (sndPay (F := F) m k c) := by unfold sndPay; infer_instance

/-! ## The schedule -/

/-- What the three barrier signals to `c` hand over: `rgt c`'s (duty 0), `lft c`'s (duty 1), `zee c`'s (duty 2) buffers. -/
def barPay (d : Fin 3) (c : Dev nD) : sProp 𝕄 :=
  match d with
  | 0 => iprop(room .r0 c ∗ room .r1 c ∗ room .r2 c ∗ room .bra c ∗ room .brb c)
  | 1 => iprop(room .l0 c ∗ room .l1 c ∗ room .l2 c ∗ room .bla c ∗ room .blb c)
  | 2 => iprop(room .z0 c ∗ room .z1 c ∗ room .cr c ∗ room .cl c ∗ room .c2r c ∗ room .c2l c)

omit [FloatOps F] in
instance barPay_storable (d : Fin 3) (c : Dev nD) : BI.Storable (upEmb : UEmb _ 𝕄) (barPay (F := F) d c) := by
  unfold barPay; (repeat' split) <;> infer_instance

/-- The duties of a role in the one round. -/
def dutiesOf : Role → Finset (Fin 3)
  | .bar => Finset.univ | .snd _ => {0} | .rcv _ => {0} | .none => ∅
/-- The units a role's duty pays. -/
def amountOfRole : Role → ℕ
  | .bar => 1 | .snd k => amt k | .rcv k => amt k | .none => 1
/-- What a role's duty hands over on device `c`. -/
def payOf : Role → Fin 3 → Dev nD → sProp 𝕄
  | .bar, d, c => barPay d c
  | .snd k, _, c => sndPay m k c
  | .rcv k, _, c => rcvPay m k c
  | .none, _, _ => iprop(emp)

instance payOf_storable (r : Role) (d : Fin 3) (c : Dev nD) : BI.Storable (upEmb : UEmb _ 𝕄) (payOf (F := F) m r d c) := by
  cases r <;> unfold payOf <;> infer_instance

/-- One round, round 0. -/
def Rd : Rounds.Schedule (GSem nD τ sig) (Fin 3) 𝕄 where
  duties g r := if r = 0 ∧ g.1.2 = .tc then dutiesOf (role g.2) else ∅
  unitless _ := False
  amount g _ _ := amountOfRole (role g.2)
  payload g _ d := payOf m (role g.2) d g.1.1
  amount_pos g _ _ _ := by
    cases h : role g.2 <;> unfold amountOfRole <;> first | exact Nat.one_pos | exact amt_pos _

instance Rd_payload_storable (g : GSem nD τ sig) (r : ℕ) (d : Fin 3) : BI.Storable (upEmb : UEmb _ 𝕄) ((Rd (F := F) m).payload g r d) := by
  show BI.Storable upEmb (payOf m (role g.2) d g.1.1); infer_instance

section Rd
variable (k : Xf) (c : Dev nD)

theorem duties_bar : (Rd (F := F) m).duties (barCell c) 0 = Finset.univ := by
  dsimp only [Rd]; rw [if_pos ⟨rfl, rfl⟩, role_bar]; rfl
theorem duties_snd : (Rd (F := F) m).duties (sndCell k c) 0 = {0} := by
  dsimp only [Rd]; rw [if_pos ⟨rfl, rfl⟩, role_snd]; rfl
theorem duties_rcv : (Rd (F := F) m).duties (rcvCell k c) 0 = {0} := by
  dsimp only [Rd]; rw [if_pos ⟨rfl, rfl⟩, role_rcv]; rfl
theorem duties_later (g : GSem nD τ sig) : ∀ r, 1 ≤ r → (Rd (F := F) m).duties g r = ∅ :=
  fun r hr => by dsimp only [Rd]; exact if_neg fun h => by omega

theorem amount_bar (d : Fin 3) : (Rd (F := F) m).amount (barCell c) 0 d = 1 := by dsimp only [Rd]; rw [role_bar]; rfl
theorem amount_snd (d : Fin 3) : (Rd (F := F) m).amount (sndCell k c) 0 d = amt k := by dsimp only [Rd]; rw [role_snd]; rfl
theorem amount_rcv (d : Fin 3) : (Rd (F := F) m).amount (rcvCell k c) 0 d = amt k := by dsimp only [Rd]; rw [role_rcv]; rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_snd : (Rd (F := F) m).expect (sndCell k c) 0 = amt k := by
  unfold Schedule.expect Schedule.amountOf; rw [duties_snd, Finset.sum_singleton, amount_snd]
theorem expect_rcv : (Rd (F := F) m).expect (rcvCell k c) 0 = amt k := by
  unfold Schedule.expect Schedule.amountOf; rw [duties_rcv, Finset.sum_singleton, amount_rcv]

theorem payload_bar (d : Fin 3) : (Rd (F := F) m).payload (barCell c) 0 d = barPay d c := by dsimp only [Rd]; rw [role_bar]; rfl
theorem payload_snd (d : Fin 3) : (Rd (F := F) m).payload (sndCell k c) 0 d = sndPay m k c := by dsimp only [Rd]; rw [role_snd]; rfl
theorem payload_rcv (d : Fin 3) : (Rd (F := F) m).payload (rcvCell k c) 0 d = rcvPay m k c := by dsimp only [Rd]; rw [role_rcv]; rfl

theorem rest_bar : bigSep ((Rd (F := F) m).duties (barCell c) 0 \ ∅) (fun d => (Rd (F := F) m).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_snd : bigSep ((Rd (F := F) m).duties (sndCell k c) 0 \ ∅) (fun d => (Rd (F := F) m).payload (sndCell k c) 0 d) = sndPay m k c := by
  rw [Finset.sdiff_empty, duties_snd, bigSep_singleton, payload_snd]
theorem rest_rcv : bigSep ((Rd (F := F) m).duties (rcvCell k c) 0 \ ∅) (fun d => (Rd (F := F) m).payload (rcvCell k c) 0 d) = rcvPay m k c := by
  rw [Finset.sdiff_empty, duties_rcv, bigSep_singleton, payload_rcv]

end Rd

/-! ## What a device owes, and the levels -/

/-- The receive credits a device owes for the transfers it has yet to start. -/
def owedL (c : Dev nD) : List Xf → CellTallies nD τ sig Unit
  | [] => 0
  | k :: ks => owedL c ks + tallyAt (rcvCell k (tgt k c)) () (amt k)

/-- The transfers in the order they start. -/
abbrev order : List Xf := [.z0, .r0, .l0, .z1, .r1, .l1, .r2, .l2, .bra, .brb, .bla, .blb, .c2r, .c2l, .cr, .cl]

/-- What a device owes at launch: all its receive credits, and one unit to each of the three barrier cells it signals. -/
def O₂ (c : Dev nD) : CellTallies nD τ sig Unit := owedL c order + tallyAt (barCell (zee c)) () 1
def O₁ (c : Dev nD) : CellTallies nD τ sig Unit := O₂ c + tallyAt (barCell (rgt c)) () 1
def O₀ (c : Dev nD) : CellTallies nD τ sig Unit := O₁ c + tallyAt (barCell (lft c)) () 1

/-- The level of a transfer's receive cell: above the levels of all it waits for. -/
def lvl : Xf → ℕ
  | .z0 => 2 | .z1 => 2 | .r0 => 2 | .r1 => 2 | .l0 => 2 | .l1 => 2
  | .r2 => 3 | .l2 => 3 | .bra => 3 | .brb => 3 | .bla => 3 | .blb => 3 | .c2r => 3 | .c2l => 3
  | .cr => 4 | .cl => 4
/-- The level of a role: the barrier at 1, the receive cells above, the rest at 0. -/
def lvRole : Role → ℕ
  | .bar => 1 | .rcv k => lvl k | .snd _ => 0 | .none => 0

def L (g : GSem nD τ sig) : Finset Unit := if g.1.2 = .tc then {()} else ∅
def lv (g : GSem nD τ sig) (_ : Unit) : ℕ := lvRole (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_rcv (k : Xf) (c : Dev nD) (u : Unit) : lv (rcvCell k c) u = lvl k := by unfold lv; rw [role_rcv]; rfl
theorem lv_bar (c : Dev nD) (u : Unit) : lv (barCell c) u = 1 := by unfold lv; rw [role_bar]; rfl

theorem owedL_pos {c : Dev nD} {g : GSem nD τ sig} {u : Unit} : {ks : List Xf} → 0 < owedL c ks g u → ∃ k ∈ ks, g = rcvCell k (tgt k c)
  | [], h => absurd h (Nat.lt_irrefl 0)
  | k :: ks, h => by
    unfold owedL at h
    rw [Pi.add_apply, Finsupp.add_apply, tallyAt_apply] at h
    by_cases hg : g = rcvCell k (tgt k c)
    · exact ⟨k, List.mem_cons_self, hg⟩
    · rw [if_neg fun h' => hg h'.1, add_zero] at h
      obtain ⟨j, hj, e⟩ := owedL_pos h
      exact ⟨j, List.mem_cons_of_mem _ hj, e⟩

theorem O₀_pos {c : Dev nD} {g : GSem nD τ sig} {u : Unit} (h : 0 < O₀ c g u) :
    (∃ k ∈ order, g = rcvCell k (tgt k c)) ∨ g = barCell (zee c) ∨ g = barCell (rgt c) ∨ g = barCell (lft c) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  simp only [not_or] at hn
  rw [if_neg (fun h' => hn.2.1 h'.1), if_neg (fun h' => hn.2.2.1 h'.1), if_neg (fun h' => hn.2.2.2 h'.1), add_zero, add_zero, add_zero] at h
  exact hn.1 (owedL_pos h)

omit [FloatOps F] in
/-- A device may wait at level `n` while it owes transfers of higher levels only. -/
theorem mayWait_owed (c : Dev nD) (sm : SemLoc sig) (n : ℕ) (hn : ∀ u, lv ((c : Thread nD τ), sm) u = n) (ks : List Xf) (hks : ∀ j ∈ ks, n < lvl j) :
    (levAts L lv : sProp 𝕄) ⊢ MayWait (c : Thread nD τ) sm () (owedL c ks) :=
  MayOwe.of_cut (L := L) (lev := lv) n (fun p hp => by rw [Finset.mem_singleton.mp hp, L_tc]; exact Finset.mem_singleton_self _)
    (fun g u hg => by obtain ⟨j, _, rfl⟩ := owedL_pos hg; rw [L_tc]; exact Finset.mem_singleton_self _)
    (fun p hp => by rw [Finset.mem_singleton.mp hp]; exact le_of_eq (hn _))
    (fun g u hg => by obtain ⟨j, hj, rfl⟩ := owedL_pos hg; rw [lv_rcv]; exact hks j hj)

omit [FloatOps F] in
/-- The pipeline's staging waits are at level 0, below all a device owes. -/
theorem mayWait_stage (c : Dev nD) (q : DmaSem sig) (hq : ∀ u, lv ((c : Thread nD τ), .dma q) u = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, _, rfl⟩ | rfl | rfl | rfl <;> (rw [L_tc]; exact Finset.mem_singleton_self _))
      (fun p hp => by rw [Finset.mem_singleton.mp hp]; exact le_of_eq (hq _))
      (fun g u hg => by
        rcases O₀_pos hg with ⟨j, _, rfl⟩ | rfl | rfl | rfl
        · rw [lv_rcv]; cases j <;> decide
        all_goals rw [lv_bar]; decide)
  · rw [MayWait_zero]; iintro -; iempintro

end Cert.AllGather
-- ==== Proof.Steps.lean ====
/-
# One step of the protocol

The rules the body is run with: a barrier signal, the barrier wait, the start of a transfer, and the waits on a transfer's
two ends, each stated at the assertions of the protocol; and the loads and stores of the buffers.
-/
module

public import proofs.«01_k».proof.Proof.Sched

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The invariants -/

/-- The cells of a device: its barrier, the sending ends (`true`) and the receiving ends (`false`) of the transfers. -/
abbrev CI : Type := Option (Bool × Xf)

/-- The semaphore a cell name stands for. -/
@[reducible] def csem : CI → SemLoc sig
  | none => .reg barS
  | some (true, k) => .dma (sndS k)
  | some (false, k) => .dma (rcvS k)

abbrev kcell (p : Dev nD × CI) : GSem nD τ sig := ((p.1 : Thread nD τ), csem p.2)

/-- Every cell's invariant, under the names `K`, and that every cell is at round 0 at least. -/
def recs (K : Dev nD × CI → ℕ) : sProp 𝕄 :=
  iprop((bigSep Finset.univ fun p : Dev nD × CI => cellInv ER (Rd m) (K p) (kcell p))
    ∗ (bigSep Finset.univ fun p : Dev nD × CI => reached ER (kcell p) 0))

instance recs_persistent (K : Dev nD × CI → ℕ) : BI.Persistent (recs m K) := by unfold recs; infer_instance

/-- What every device knows throughout. -/
def ctx : sProp 𝕄 := iprop((∃ K, recs m K) ∗ levAts L lv)

instance ctx_persistent : BI.Persistent (ctx m) := by unfold ctx; infer_instance

theorem recs_inv (K : Dev nD × CI → ℕ) (p : Dev nD × CI) : recs m K ⊢ cellInv ER (Rd m) (K p) (kcell p) := by
  have h : (bigSep Finset.univ fun p : Dev nD × CI => cellInv ER (Rd m) (K p) (kcell p)) ⊢ cellInv ER (Rd m) (K p) (kcell p) :=
    bigSep_elim (Finset.mem_univ p)
  unfold recs; iintro ⟨H, -⟩; iapply h; iexact H
theorem recs_reached (K : Dev nD × CI → ℕ) (p : Dev nD × CI) : recs m K ⊢ reached ER (kcell p) 0 := by
  have h : (bigSep Finset.univ fun p : Dev nD × CI => (reached ER (kcell p) 0 : sProp 𝕄)) ⊢ reached ER (kcell p) 0 :=
    bigSep_elim (Finset.mem_univ p)
  unfold recs; iintro ⟨-, H⟩; iapply h; iexact H

/-- Device `c` owes `O`, whatever it has waited on. -/
def owesE (c : Dev nD) (O : CellTallies nD τ sig Unit) : sProp 𝕄 := iprop(∃ W, owes (c : Thread nD τ) O W)

/-- What device `c` needs to start transfer `k`: the two duties' tokens, and its place at the sending end. -/
def snd0 (k : Xf) (c : Dev nD) : sProp 𝕄 :=
  iprop(dutyTok ER (sndCell k c) 0 0 ∗ dutyTok ER (rcvCell k (tgt k c)) 0 0 ∗ atPos ER (sndCell k c) 0 ∅ 0)
/-- What it holds of transfer `k` once started. -/
def snd1 (k : Xf) (c : Dev nD) : sProp 𝕄 :=
  iprop(cred (tallyAt (sndCell k c) () (amt k)) ∗ atPos ER (sndCell k c) 0 ∅ 0)
/-- What it needs to wait for transfer `k` to land. -/
def rcv0 (k : Xf) (c : Dev nD) : sProp 𝕄 :=
  iprop(cred (tallyAt (rcvCell k c) () (amt k)) ∗ atPos ER (rcvCell k c) 0 ∅ 0)
/-- What it needs for its barrier. -/
def bar0 (c : Dev nD) : sProp 𝕄 :=
  iprop(cred (tallyAt (barCell c) () 3) ∗ atPos ER (barCell c) 0 ∅ 0)

abbrev zeroAt (g : GSem nD τ sig) : sProp 𝕄 := semVal g 0

omit [FloatOps F] in
/-- Contents that a view reads alike are alike under it: a write is the contents it reads as. -/
theorem write_as {sp : Space} {s : Shape} {e : EltTy} (v : View sig .tc sp s e) (c : Dev nD) (q : PosShare TreeShare)
    (f g : v.ty.Contents (Elt F)) (w : s.Idx → Elt F e) (h : v.read (Elt F) g = w) :
    (v.loc (c : Thread nD τ) ↦[v.set]{q} (v.write (Elt F) f w Finset.univ) : sProp 𝕄) = (v.loc (c : Thread nD τ) ↦[v.set]{q} g) := by
  refine pointsTo_congr fun i hi => ?_
  rw [← h, View.write_read_eq_piecewise]
  exact Finset.piecewise_eq_of_mem _ _ _ hi

section Steps

variable {α : Type} (c : Dev nD)

/-- A barrier signal to device `n`, paying duty `d` there with the buffers `barPay d n`. -/
theorem wp_bar_signal (n n' : Dev nD) (hn : n' = n) (d : Fin 3) (O : CellTallies nD τ sig Unit) {a : ℤ} (ha : a = 1)
    {Q : α → sProp 𝕄} {k : PUnit → Prog (TpuEff nD τ sig (Elt F) Λ₀ .tc) α} :
    iprop(ctx m ∗ owesE c (O + tallyAt (barCell n) () 1) ∗ dutyTok ER (barCell n) 0 d ∗ barPay d n)
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n' : Thread nD τ) barS a) k) Q) := by
  subst hn; subst ha
  unfold ctx owesE
  iintro ⟨⟨⟨%K, #HR⟩, #Hlev⟩, ⟨%W, HO⟩, Ht, Hp⟩ Hk
  ihave #HI := (recs_inv m K (n', none)) $$ HR
  ihave #Hr := (recs_reached m K (n', none)) $$ HR
  iapply (Rounds.wp_signal 𝒱₀ ER (Rd m) (c : Thread nD τ) none (dst := (n' : Thread nD τ)) (κ := K (n', none))
      (d := d) (by rw [duties_bar]; exact Finset.mem_univ _) ((amount_bar m n' d).trans (by decide)) () O rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The barrier wait: all three neighbours' buffers come with it. -/
theorem wp_bar_wait (ks : List Xf) (hks : ∀ j ∈ ks, 1 < lvl j) {a : ℤ} (ha : a = 3)
    {Q : α → sProp 𝕄} {k : PUnit → Prog (TpuEff nD τ sig (Elt F) Λ₀ .tc) α} :
    iprop(ctx m ∗ owesE c (owedL c ks) ∗ bar0 c)
      ⊢ iprop(((owesE c (owedL c ks) ∗ zeroAt (barCell c) ∗ barPay 0 c ∗ barPay 1 c ∗ barPay 2 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold ctx owesE bar0
  iintro ⟨⟨⟨%K, #HR⟩, #Hlev⟩, ⟨%W, HO⟩, Hc, Hat⟩ Hk
  ihave #HI := (recs_inv m K (c, none)) $$ HR
  iapply (Rounds.wp_wait_rest_token 𝒱₀ ER (Rd m) (c : Thread nD τ) none (κ := K (c, none))
      (wpE_semWait_eq 𝒱₀ (c : Thread nD τ) none Set.univ) (Set.mem_univ _) () (O := owedL c ks) (W := W) (R := 0) (m := 0) (T := ∅)
      (by rw [expect_bar])) $$ [Hc HO Hat]
  · isplitr; · iexact HI
    isplitl [Hc]; · iexact Hc
    isplitl [HO]; · iexact HO
    isplitr; · iapply (mayWait_owed c (.reg barS) 1 (fun u => lv_bar c u) ks hks); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- The start of transfer `k`, addressed to `n = tgt k c`. -/
theorem wp_xfer (k : Xf) (ks : List Xf) (n : Dev nD) (hn : n = tgt k c)
    {hsc : (dstM k : Memref sig (Dev.tc n : Thread nD τ).2.kind .vmem (shp k) .fp8e4m3).view.ref.isScScratch = false}
    {hsrc : (srcM k).view.WordExact} {hdst : (dstM k).view.WordExact}
    {hsem : DmaTarget.Typed .vmem (.dma (rcvS k)) (.remote (Dev.tc n : Thread nD τ) (dstM k) (.dma (sndS k)) hsc)}
    {Q : α → sProp 𝕄} {kk : PUnit → Prog (TpuEff nD τ sig (Elt F) Λ₀ .tc) α} :
    iprop(ctx m ∗ owesE c (owedL c (k :: ks)) ∗ snd0 k c ∗ room k c ∗ sndPay m k c)
      ⊢ iprop(((owesE c (owedL c ks) ∗ snd1 k c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (srcM k) (.remote (Dev.tc n : Thread nD τ) (dstM k) (.dma (sndS k)) hsc) (.dma (rcvS k)) hsrc hdst hsem) kk) Q) := by
  subst hn
  unfold ctx owesE snd0 snd1 room free
  iintro ⟨⟨⟨%K, #HR⟩, #Hlev⟩, ⟨%W, HO⟩, ⟨Hts, Htr, Hat⟩, ⟨%fd, Hr⟩, Hs⟩ Hk
  ihave #HIs := (recs_inv m K (c, some (true, k))) $$ HR
  ihave #HIr := (recs_inv m K (tgt k c, some (false, k))) $$ HR
  ihave #Hrs := (recs_reached m K (c, some (true, k))) $$ HR
  ihave #Hrr := (recs_reached m K (tgt k c, some (false, k))) $$ HR
  unfold sndPay pts
  iapply (Rounds.wp_send_pointsTo 𝒱₀ ER (Rd m) (c : Thread nD τ) none (κ₁ := K (c, some (true, k))) (κ₂ := K (tgt k c, some (false, k)))
    (r₁ := 0) (r₂ := 0) (d₁ := 0) (d₂ := 0) (fd := fd)
    (by rw [duties_snd]; exact Finset.mem_singleton_self _) (by rw [duties_rcv]; exact Finset.mem_singleton_self _)
    () () (amt k) rfl (amount_snd m k c 0) (amount_rcv m k (tgt k c) 0) (owedL c ks) rfl (W := W)
    (by rw [payload_snd]; exact BI.Entails.refl _)
    (by rw [payload_rcv]; unfold rcvPay pts
        exact Entails.of_eq (write_as (dstM k).view (tgt k c) fullShare fd (dstC m k (tgt k c)) _ (landed m k c)))) $$ [HO Hts Htr Hr Hs]
  · isplitr; · iexact HIs
    isplitr; · iexact HIr
    isplitl [Hs]; · iexact Hs
    isplitl [Hr]; · iexact Hr
    isplitl [HO]; · iexact HO
    isplitl [Hts]; · iexact Hts
    isplitr; · iexact Hrs
    isplitl [Htr]; · iexact Htr
    iexact Hrr
  iintro ⟨Hc, HO⟩
  iapply Hk
  isplitl [HO]; · iexists W; iexact HO
  isplitl [Hc]; · iexact Hc
  iexact Hat

/-- The wait for transfer `k` to land: the buffer comes back holding what landed. -/
theorem wp_landed (k : Xf) (ks : List Xf) (hks : ∀ j ∈ ks, lvl k < lvl j) {sp : Space} {s : Shape} {e : EltTy} {src : Memref sig .tc sp s e}
    {hs} {hd} {Q : α → sProp 𝕄} {kk : PUnit → Prog (TpuEff nD τ sig (Elt F) Λ₀ .tc) α} :
    iprop(ctx m ∗ owesE c (owedL c ks) ∗ rcv0 k c)
      ⊢ iprop(((owesE c (owedL c ks) ∗ zeroAt (rcvCell k c) ∗ rcvPay m k c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rcvS k) src (dstM k) hs hd) kk) Q) := by
  unfold ctx owesE rcv0
  iintro ⟨⟨⟨%K, #HR⟩, #Hlev⟩, ⟨%W, HO⟩, Hc, Hat⟩ Hk
  ihave #HI := (recs_inv m K (c, some (false, k))) $$ HR
  iapply (Rounds.wp_wait_rest_token 𝒱₀ ER (Rd m) (c : Thread nD τ) none (κ := K (c, some (false, k)))
      (wpE_waitDma2_eq 𝒱₀ (c : Thread nD τ) none Set.univ) (Set.mem_univ _) () (O := owedL c ks) (W := W) (R := 0) (m := 0) (T := ∅)
      (by rw [Nat.zero_add, expect_rcv])) $$ [Hc HO Hat]
  · isplitr; · iexact HI
    isplitl [Hc]; · iexact Hc
    isplitl [HO]; · iexact HO
    isplitr; · iapply (mayWait_owed c (.dma (rcvS k)) (lvl k) (fun u => lv_rcv k c u) ks hks); iexact Hlev
    iexact Hat
  iintro ⟨HO, Hat, -, Hpay⟩
  ihave Hp := (Entails.of_eq (rest_rcv m k c)) $$ Hpay
  imod (Rounds.cell_close ER (Rd m) (Set.mem_univ (K (c, some (false, k)))) (fun h => h) (R := 0 + 1) (duties_later m (rcvCell k c))) $$ [Hat] with Hz
  · isplitr; · iexact HI
    iexact Hat
  iapply Hk
  isplitl [HO]; · iexists _; iexact HO
  isplitl [Hz]; · iexact Hz
  iexact Hp

/-- The wait for transfer `k` to have left: the rows lent to it come back. -/
theorem wp_left (k : Xf) {sp : Space} {s : Shape} {e : EltTy} {src : Memref sig .tc sp s e}
    {hs} {hd} {Q : α → sProp 𝕄} {kk : PUnit → Prog (TpuEff nD τ sig (Elt F) Λ₀ .tc) α} :
    iprop(ctx m ∗ owesE c (owedL c []) ∗ snd1 k c)
      ⊢ iprop(((owesE c (owedL c []) ∗ zeroAt (sndCell k c) ∗ sndPay m k c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sndS k) src (srcM k) hs hd) kk) Q) := by
  unfold ctx owesE snd1
  iintro ⟨⟨⟨%K, #HR⟩, #Hlev⟩, ⟨%W, HO⟩, Hc, Hat⟩ Hk
  ihave #HI := (recs_inv m K (c, some (true, k))) $$ HR
  iapply (Rounds.wp_wait_rest_token 𝒱₀ ER (Rd m) (c : Thread nD τ) none (κ := K (c, some (true, k)))
      (wpE_waitDma2_eq 𝒱₀ (c : Thread nD τ) none Set.univ) (Set.mem_univ _) () (O := owedL c []) (W := W) (R := 0) (m := 0) (T := ∅)
      (by rw [Nat.zero_add, expect_snd, amt_src])) $$ [Hc HO Hat]
  · isplitr; · iexact HI
    isplitl [Hc]; · rw [amt_src]; iexact Hc
    isplitl [HO]; · iexact HO
    isplitr; · unfold owedL; rw [MayWait_zero]; iempintro
    iexact Hat
  iintro ⟨HO, Hat, -, Hpay⟩
  ihave Hp := (Entails.of_eq (rest_snd m k c)) $$ Hpay
  imod (Rounds.cell_close ER (Rd m) (Set.mem_univ (K (c, some (true, k)))) (fun h => h) (R := 0 + 1) (duties_later m (sndCell k c))) $$ [Hat] with Hz
  · isplitr; · iexact HI
    iexact Hat
  iapply Hk
  isplitl [HO]; · iexists _; iexact HO
  isplitl [Hz]; · iexact Hz
  iexact Hp

end Steps

end Cert.AllGather
-- ==== Proof.Buffers.lean ====
/-
# Buffers in the body

Shares and slots of a buffer taken apart and put together, and the loads and stores at them.
-/
module

public import proofs.«01_k».proof.Proof.Steps

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body's program `p` on device `c` runs safely and ends in `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Shares -/

section Shares
variable {sp : Space} {s : Shape} {e : EltTy} (M : Memref sig .tc sp s e) (c : Dev nD) (f : Buf (Elt F) (M.view.loc (c : Thread nD τ)))

omit [FloatOps F] in
theorem halves : (pts M c fullShare f : sProp 𝕄) ⊢ iprop(pts M c fullShare.left f ∗ pts M c fullShare.right f) :=
  (pointsTo_share (PosShare.mem_left_op_right fullShare)).1
omit [FloatOps F] in
theorem unhalve : iprop(pts M c fullShare.left f ∗ pts M c fullShare.right f) ⊢ (pts M c fullShare f : sProp 𝕄) :=
  (pointsTo_share (PosShare.mem_left_op_right fullShare)).2
omit [FloatOps F] in
theorem thirds : (pts M c fullShare f : sProp 𝕄)
    ⊢ iprop(pts M c fullShare.left f ∗ pts M c fullShare.right.left f ∗ pts M c fullShare.right.right f) :=
  (halves M c f).trans (sep_mono_right (pointsTo_share (PosShare.mem_left_op_right fullShare.right)).1)
omit [FloatOps F] in
theorem unthird : iprop(pts M c fullShare.left f ∗ pts M c fullShare.right.left f ∗ pts M c fullShare.right.right f)
    ⊢ (pts M c fullShare f : sProp 𝕄) :=
  (sep_mono_right (pointsTo_share (PosShare.mem_left_op_right fullShare.right)).2).trans (unhalve M c f)
omit [FloatOps F] in
theorem free_of : (pts M c fullShare f : sProp 𝕄) ⊢ free M c := by
  unfold free; iintro H; iexists f; iexact H

end Shares

omit [FloatOps F] in
/-- A device's own landing buffer is the room of the transfer that comes to it. -/
theorem room_org (k : Xf) (c : Dev nD) : (room k (org k c) : sProp 𝕄) = free (dstM k) c := by
  unfold room; rw [tgt_org]

/-! ## Slots -/

theorem mem_rs0 (i : S2x256x4096.Idx) : i ∈ rs0.set ↔ (i 0).val = 0 := by
  rw [Rect.mem_set_unit]
  constructor
  · intro h; have h0 := (h 0).2
    have : (i 0).val < 0 + 1 := h0
    omega
  · intro h a
    have h1 := (i 1).isLt; have h2 := (i 2).isLt
    fin_cases a
    · show 0 ≤ (i 0).val ∧ (i 0).val < 0 + 1; omega
    · exact ⟨Nat.zero_le _, by show (i 1).val < 0 + 256; rw [Nat.zero_add]; exact h1⟩
    · exact ⟨Nat.zero_le _, by show (i 2).val < 0 + 4096; rw [Nat.zero_add]; exact h2⟩

theorem mem_rs1 (i : S2x256x4096.Idx) : i ∈ rs1.set ↔ (i 0).val = 1 := by
  rw [Rect.mem_set_unit]
  constructor
  · intro h; have h0 := (h 0)
    have : 1 ≤ (i 0).val ∧ (i 0).val < 1 + 1 := h0
    omega
  · intro h a
    have h1 := (i 1).isLt; have h2 := (i 2).isLt
    fin_cases a
    · show 1 ≤ (i 0).val ∧ (i 0).val < 1 + 1; omega
    · exact ⟨Nat.zero_le _, by show (i 1).val < 0 + 256; rw [Nat.zero_add]; exact h1⟩
    · exact ⟨Nat.zero_le _, by show (i 2).val < 0 + 4096; rw [Nat.zero_add]; exact h2⟩

theorem rs_disjoint : Disjoint rs0.set rs1.set := by
  rw [Finset.disjoint_left]; intro i h0 h1
  rw [mem_rs0] at h0; rw [mem_rs1] at h1; omega

theorem rs_union : rs0.set ∪ rs1.set = Finset.univ := by
  ext i
  have h : (i 0).val < 2 := (i 0).isLt
  simp only [Finset.mem_union, mem_rs0, mem_rs1, Finset.mem_univ, iff_true]; omega

theorem sl0_set (M : Memref sig .tc .vmem S2x256x4096 .fp8e4m3) : (sl0 M).view.set = M.view.setOn rs0.set := by
  show ((M.view.slice rs0).reshape _ _).set = _
  rw [View.set_reshape, View.set_slice]; rfl
theorem sl1_set (M : Memref sig .tc .vmem S2x256x4096 .fp8e4m3) : (sl1 M).view.set = M.view.setOn rs1.set := by
  show ((M.view.slice rs1).reshape _ _).set = _
  rw [View.set_reshape, View.set_slice]; rfl

theorem sl_disjoint (M : Memref sig .tc .vmem S2x256x4096 .fp8e4m3) : Disjoint (sl0 M).view.set (sl1 M).view.set := by
  rw [sl0_set, sl1_set]; exact (Finset.disjoint_map M.view.emb).mpr rs_disjoint
theorem sl_union (M : Memref sig .tc .vmem S2x256x4096 .fp8e4m3) : (sl0 M).view.set ∪ (sl1 M).view.set = M.view.set := by
  rw [sl0_set, sl1_set]
  unfold View.setOn View.set
  rw [← Finset.map_union, rs_union]

section Slots
variable (M : Memref sig .tc .vmem S2x256x4096 .fp8e4m3) (c : Dev nD) (q : PosShare TreeShare) (f : Buf (Elt F) (M.view.loc (c : Thread nD τ)))

omit [FloatOps F] in
/-- A buffer of two slots is its slots. -/
theorem slots : (pts M c q f : sProp 𝕄) ⊢ iprop(pts (sl0 M) c q f ∗ pts (sl1 M) c q f) := by
  unfold pts; rw [← sl_union M]; exact (pointsTo_union (sl_disjoint M)).1

omit [FloatOps F] in
theorem free_slots : (free M c : sProp 𝕄) ⊢ iprop(free (sl0 M) c ∗ free (sl1 M) c) := by
  unfold free
  iintro ⟨%f, H⟩
  ihave H := (slots M c fullShare f) $$ H
  icases H with ⟨H0, H1⟩
  isplitl [H0]
  · iexists f; iexact H0
  · iexists f; iexact H1

omit [FloatOps F] in
theorem free_unslot : iprop(free (sl0 M) c ∗ free (sl1 M) c) ⊢ (free M c : sProp 𝕄) := by
  unfold free pts
  iintro ⟨⟨%f, H0⟩, ⟨%g, H1⟩⟩
  ihave H := (show iprop((M.view.loc (c : Thread nD τ) ↦[(sl0 M).view.set]{fullShare} f) ∗ (M.view.loc (c : Thread nD τ) ↦[(sl1 M).view.set]{fullShare} g))
      ⊢ (M.view.loc (c : Thread nD τ) ↦[(sl0 M).view.set ∪ (sl1 M).view.set]{fullShare} ((sl1 M).view.set.piecewise g f) : sProp 𝕄)
      from pointsTo_join (sl_disjoint M)) $$ [H0 H1]
  · isplitl [H0]; · iexact H0
    iexact H1
  rw [sl_union]
  iexists _; iexact H

end Slots

/-! ## Loads and stores -/

section Steps
variable {α : Type} (c : Dev nD)

/-- A load through `M` of a buffer whose elements under `M'` are held. -/
theorem wp_ld {cs : CoreSpace} {s : Shape} {e : EltTy} (M : Memref sig .tc cs s e) (q : PosShare TreeShare) (f : Buf (Elt F) (M.view.loc (c : Thread nD τ)))
    {r : LoadRect s} {hl : M.view.LoadsAt r} (w : r.shape.Idx → Elt F e) (hw : M.view.readAt (Elt F) r f = w)
    {Q : α → sProp 𝕄} {k : (r.shape.Idx → Elt F e) → Prog (TpuEff nD τ sig (Elt F) Λ₀ .tc) α} :
    pts M c q f ⊢ iprop((pts M c q f -∗ runs c (k w) Q) -∗ runs c (.op (.load M r hl) k) Q) := by
  subst hw
  unfold pts
  exact wp_load 𝒱₀ (c : Thread nD τ) none Set.univ (m := M) (View.setOn_subset_set _ _)

/-- A load whose value nothing uses. -/
theorem wp_ld_free {cs : CoreSpace} {s : Shape} {e : EltTy} (M : Memref sig .tc cs s e)
    {r : LoadRect s} {hl : M.view.LoadsAt r}
    {Q : α → sProp 𝕄} {k : (r.shape.Idx → Elt F e) → Prog (TpuEff nD τ sig (Elt F) Λ₀ .tc) α} :
    free M c ⊢ iprop((∀ w, free M c -∗ runs c (k w) Q) -∗ runs c (.op (.load M r hl) k) Q) := by
  unfold free
  iintro ⟨%f, H⟩ Hk
  iapply (wp_ld c M fullShare f (r := r) (hl := hl) _ rfl) $$ H
  iintro H
  iapply Hk
  iexists f; iexact H

/-- A load of the output, whose value nothing uses. -/
theorem wp_ld_any {cs : CoreSpace} {s : Shape} {e : EltTy} (M : Memref sig .tc cs s e) (q : PosShare TreeShare) (f : Buf (Elt F) (M.view.loc (c : Thread nD τ)))
    {r : LoadRect s} {hl : M.view.LoadsAt r}
    {Q : α → sProp 𝕄} {k : (r.shape.Idx → Elt F e) → Prog (TpuEff nD τ sig (Elt F) Λ₀ .tc) α} :
    pts M c q f ⊢ iprop((∀ w, pts M c q f -∗ runs c (k w) Q) -∗ runs c (.op (.load M r hl) k) Q) := by
  iintro H Hk
  iapply (wp_ld c M q f (r := r) (hl := hl) _ rfl) $$ H
  iintro H
  iapply Hk; iexact H

/-- A load inside a slot. -/
theorem wp_ld0 (M : Memref sig .tc .vmem S2x256x4096 .fp8e4m3) (q : PosShare TreeShare) (f : Buf (Elt F) (M.view.loc (c : Thread nD τ)))
    {r : LoadRect S2x256x4096} {hl : M.view.LoadsAt r} (hr : r.set ⊆ rs0.set)
    {Q : α → sProp 𝕄} {k : (r.shape.Idx → Elt F .fp8e4m3) → Prog (TpuEff nD τ sig (Elt F) Λ₀ .tc) α} :
    pts (sl0 M) c q f ⊢ iprop((pts (sl0 M) c q f -∗ runs c (k (M.view.readAt (Elt F) r f)) Q) -∗ runs c (.op (.load M r hl) k) Q) := by
  unfold pts
  exact wp_load 𝒱₀ (c : Thread nD τ) none Set.univ (m := M) (by rw [sl0_set]; exact Finset.map_subset_map.mpr hr)
theorem wp_ld1 (M : Memref sig .tc .vmem S2x256x4096 .fp8e4m3) (q : PosShare TreeShare) (f : Buf (Elt F) (M.view.loc (c : Thread nD τ)))
    {r : LoadRect S2x256x4096} {hl : M.view.LoadsAt r} (hr : r.set ⊆ rs1.set)
    {Q : α → sProp 𝕄} {k : (r.shape.Idx → Elt F .fp8e4m3) → Prog (TpuEff nD τ sig (Elt F) Λ₀ .tc) α} :
    pts (sl1 M) c q f ⊢ iprop((pts (sl1 M) c q f -∗ runs c (k (M.view.readAt (Elt F) r f)) Q) -∗ runs c (.op (.load M r hl) k) Q) := by
  unfold pts
  exact wp_load 𝒱₀ (c : Thread nD τ) none Set.univ (m := M) (by rw [sl1_set]; exact Finset.map_subset_map.mpr hr)

theorem wp_ld0_free (M : Memref sig .tc .vmem S2x256x4096 .fp8e4m3)
    {r : LoadRect S2x256x4096} {hl : M.view.LoadsAt r} (hr : r.set ⊆ rs0.set)
    {Q : α → sProp 𝕄} {k : (r.shape.Idx → Elt F .fp8e4m3) → Prog (TpuEff nD τ sig (Elt F) Λ₀ .tc) α} :
    free (sl0 M) c ⊢ iprop((∀ w, free (sl0 M) c -∗ runs c (k w) Q) -∗ runs c (.op (.load M r hl) k) Q) := by
  unfold free
  iintro ⟨%f, H⟩ Hk
  iapply (wp_ld0 c M fullShare f (r := r) (hl := hl) hr) $$ H
  iintro H
  iapply Hk
  iexists f; iexact H
theorem wp_ld1_free (M : Memref sig .tc .vmem S2x256x4096 .fp8e4m3)
    {r : LoadRect S2x256x4096} {hl : M.view.LoadsAt r} (hr : r.set ⊆ rs1.set)
    {Q : α → sProp 𝕄} {k : (r.shape.Idx → Elt F .fp8e4m3) → Prog (TpuEff nD τ sig (Elt F) Λ₀ .tc) α} :
    free (sl1 M) c ⊢ iprop((∀ w, free (sl1 M) c -∗ runs c (k w) Q) -∗ runs c (.op (.load M r hl) k) Q) := by
  unfold free
  iintro ⟨%f, H⟩ Hk
  iapply (wp_ld1 c M fullShare f (r := r) (hl := hl) hr) $$ H
  iintro H
  iapply Hk
  iexists f; iexact H

/-- A store into part of a buffer. -/
theorem wp_st {cs : CoreSpace} {s : Shape} {e : EltTy} (M : Memref sig .tc cs s e) (f : Buf (Elt F) (M.view.loc (c : Thread nD τ)))
    {r : Rect s} {w : r.shape.Idx → Elt F e} {hx : (M.access r).Stores Finset.univ} {hm}
    {Q : α → sProp 𝕄} {k : PUnit → Prog (TpuEff nD τ sig (Elt F) Λ₀ .tc) α} :
    pts M c fullShare f ⊢ iprop((pts M c fullShare ((M.access r).write (Elt F) f w Finset.univ) -∗ runs c (k ⟨⟩) Q)
      -∗ runs c (.op (.store M r w Finset.univ hx hm) k) Q) := by
  unfold pts
  exact wp_store 𝒱₀ (c : Thread nD τ) none Set.univ (m := M) (r := r) (Mk := Finset.univ) (View.set_slice_subset _ _)

/-- A store over a whole buffer. -/
theorem wp_fill {cs : CoreSpace} {s : Shape} {e : EltTy} (M : Memref sig .tc cs s e) (g : Buf (Elt F) (M.view.loc (c : Thread nD τ)))
    {r : Rect s} {w : r.shape.Idx → Elt F e} {hx : (M.access r).Stores Finset.univ} {hm}
    (hg : ∀ f, (M.access r).write (Elt F) f w Finset.univ = g)
    {Q : α → sProp 𝕄} {k : PUnit → Prog (TpuEff nD τ sig (Elt F) Λ₀ .tc) α} :
    free M c ⊢ iprop((pts M c fullShare g -∗ runs c (k ⟨⟩) Q)
      -∗ runs c (.op (.store M r w Finset.univ hx hm) k) Q) := by
  unfold free
  iintro ⟨%f, H⟩ Hk
  iapply (wp_st c M f (hx := hx) (hm := hm)) $$ H
  iintro H
  rw [hg]
  iapply Hk; iexact H

/-- A store over a slot. -/
theorem wp_fill0 (M : Memref sig .tc .vmem S2x256x4096 .fp8e4m3) (g : Buf (Elt F) (M.view.loc (c : Thread nD τ)))
    {w : rs0.shape.Idx → Elt F .fp8e4m3} {hx : (M.access rs0).Stores Finset.univ} {hm}
    (hg : (M.view.slice rs0).read (Elt F) g = w)
    {Q : α → sProp 𝕄} {k : PUnit → Prog (TpuEff nD τ sig (Elt F) Λ₀ .tc) α} :
    free (sl0 M) c ⊢ iprop((pts (sl0 M) c fullShare g -∗ runs c (k ⟨⟩) Q)
      -∗ runs c (.op (.store M rs0 w Finset.univ hx hm) k) Q) := by
  unfold free
  iintro ⟨%f, H⟩ Hk
  unfold pts
  iapply (wp_store 𝒱₀ (c : Thread nD τ) none Set.univ (m := M) (r := rs0) (Mk := Finset.univ) (S := (sl0 M).view.set) (f := f)
    (by rw [sl0_set]; exact (View.set_slice _ _).subset)) $$ H
  iintro H
  iapply Hk
  have e : (sl0 M).view.set = (M.view.slice rs0).set := by rw [sl0_set, View.set_slice]; rfl
  rw [e]
  iapply (Entails.of_eq (write_as (M.view.slice rs0) c fullShare f g w hg)) $$ H
theorem wp_fill1 (M : Memref sig .tc .vmem S2x256x4096 .fp8e4m3) (g : Buf (Elt F) (M.view.loc (c : Thread nD τ)))
    {w : rs1.shape.Idx → Elt F .fp8e4m3} {hx : (M.access rs1).Stores Finset.univ} {hm}
    (hg : (M.view.slice rs1).read (Elt F) g = w)
    {Q : α → sProp 𝕄} {k : PUnit → Prog (TpuEff nD τ sig (Elt F) Λ₀ .tc) α} :
    free (sl1 M) c ⊢ iprop((pts (sl1 M) c fullShare g -∗ runs c (k ⟨⟩) Q)
      -∗ runs c (.op (.store M rs1 w Finset.univ hx hm) k) Q) := by
  unfold free
  iintro ⟨%f, H⟩ Hk
  unfold pts
  iapply (wp_store 𝒱₀ (c : Thread nD τ) none Set.univ (m := M) (r := rs1) (Mk := Finset.univ) (S := (sl1 M).view.set) (f := f)
    (by rw [sl1_set]; exact (View.set_slice _ _).subset)) $$ H
  iintro H
  iapply Hk
  have e : (sl1 M).view.set = (M.view.slice rs1).set := by rw [sl1_set, View.set_slice]; rfl
  rw [e]
  iapply (Entails.of_eq (write_as (M.view.slice rs1) c fullShare f g w hg)) $$ H

end Steps

end Cert.AllGather
-- ==== Proof.Pieces.lean ====
/-
# The pieces of the result

What the body reads, and the seventeen pieces of the result it stores: each a rectangle of rows of the output and the rows'
products with the device's columns of `w`, scaled and cut at zero.
-/
module

public import proofs.«01_k».proof.Proof.Buffers

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is read -/

abbrev r1 : Rect S1 := Rect.unit (s := S1) ![0] S1.size inb_S1_S1_0

/-- The product of the two scales, as the body computes it. -/
def sc (c : Dev nD) : F .f32 :=
  k0_pay1 ((sxM : Memref sig .tc .smem S1 .f32).view.readAt (Elt F) r1.toLoadRect (sxstg m c) (Shape.Idx.first (numel1_S1.symm ▸ Nat.one_pos)))
    ((swM : Memref sig .tc .smem S1 .f32).view.readAt (Elt F) r1.toLoadRect (swstg m c) (Shape.Idx.first (numel1_S1.symm ▸ Nat.one_pos)))

/-- The slots of the other plane's rows, as read; -/
abbrev z0V (c : Dev nD) : Vec F S1x256x4096 .fp8e4m3 := (zbM : Memref sig .tc .vmem S2x256x4096 .fp8e4m3).view.readAt (Elt F) rs0.toLoadRect (zbC m c)
abbrev z1V (c : Dev nD) : Vec F S1x256x4096 .fp8e4m3 := (zbM : Memref sig .tc .vmem S2x256x4096 .fp8e4m3).view.readAt (Elt F) rs1.toLoadRect (zbC m c)
/-- and those of the opposite device of the other plane. -/
abbrev c0V (c : Dev nD) : Vec F S1x256x4096 .fp8e4m3 := (czM : Memref sig .tc .vmem S2x256x4096 .fp8e4m3).view.readAt (Elt F) rs0.toLoadRect (czC m c)
abbrev c1V (c : Dev nD) : Vec F S1x256x4096 .fp8e4m3 := (czM : Memref sig .tc .vmem S2x256x4096 .fp8e4m3).view.readAt (Elt F) rs1.toLoadRect (czC m c)

/-! ## What is stored -/

/-- A device's result. -/
abbrev Out (F : FTy → Type) : Type := S4096x256.Idx → Elt F .f32

/-- A rectangle of the result and what it is to hold. -/
structure Piece (F : FTy → Type) where
  r : Rect S4096x256
  w : r.shape.Idx → Elt F .f32

/-- The result with a piece stored. -/
def put (p : Piece F) (f : Out F) : Out F := ((oM : Memref sig .tc .vmem S4096x256 .f32).access p.r).write (Elt F) f p.w Finset.univ

/-- Piece 1: the own rows. -/
def p1 (c : Dev nD) : Piece F := ⟨Rect.unit (s := S4096x256) (k0_off1 c) S512x256.size (k0_off1_inb c), k0_pay5 (sc m c) (xstg m c) (wbC m c)⟩
/-- Piece 2: the top half of the left neighbour. -/
def p2 (c : Dev nD) : Piece F := ⟨Rect.unit (s := S4096x256) (k0_off2 c 3#32) S256x256.size (k0_off2_inb c 2), k0_pay7 (sc m c) (tr1C m c) (wbC m c)⟩
/-- Piece 3: the top half of the right neighbour. -/
def p3 (c : Dev nD) : Piece F := ⟨Rect.unit (s := S4096x256) (k0_off2 c 1#32) S256x256.size (k0_off2_inb c 0), k0_pay8 (sc m c) (tl1C m c) (wbC m c)⟩
/-- Piece 4: the bottom half of the right neighbour. -/
def p4 (c : Dev nD) : Piece F := ⟨Rect.unit (s := S4096x256) (k0_off3 c 1#32) S256x256.size (k0_off3_inb c 0), k0_pay10 (sc m c) (bl1C m c) (wbC m c)⟩
/-- Piece 5: the bottom half of the left neighbour. -/
def p5 (c : Dev nD) : Piece F := ⟨Rect.unit (s := S4096x256) (k0_off3 c 3#32) S256x256.size (k0_off3_inb c 2), k0_pay11 (sc m c) (br1C m c) (wbC m c)⟩
/-- Piece 6: the top half of the other plane's device. -/
def p6 (c : Dev nD) : Piece F := ⟨Rect.unit (s := S4096x256) (k0_off4 c) S256x256.size (k0_off4_inb c), k0_pay14 (sc m c) (z0V m c) (wbC m c)⟩
/-- Piece 7: its bottom half. -/
def p7 (c : Dev nD) : Piece F := ⟨Rect.unit (s := S4096x256) (k0_off5 c) S256x256.size (k0_off5_inb c), k0_pay15 (sc m c) (z1V m c) (wbC m c)⟩
/-- Piece 8: the top half of the opposite device. -/
def p8 (c : Dev nD) : Piece F := ⟨Rect.unit (s := S4096x256) (k0_off2 c 2#32) S256x256.size (k0_off2_inb c 1), k0_pay17 (sc m c) (k0_pay16 (tr2C m c) (wbC m c))⟩
/-- Piece 9: its bottom half. -/
def p9 (c : Dev nD) : Piece F := ⟨Rect.unit (s := S4096x256) (k0_off3 c 2#32) S256x256.size (k0_off3_inb c 1), k0_pay18 (sc m c) (bl2C m c) (wbC m c)⟩
/-- Piece 10: the last 192 rows of the top half of the other plane's left neighbour. -/
def p10 (c : Dev nD) : Piece F := ⟨Rect.unit (s := S4096x256) (k0_off6 c 3#32 64#32) S192x256.size (k0_off6_inb c 0), k0_pay20 (sc m c) (k0_pay19 (braC m c)) (wbC m c)⟩
/-- Piece 11: its bottom half. -/
def p11 (c : Dev nD) : Piece F := ⟨Rect.unit (s := S4096x256) (k0_off7 c 3#32) S256x256.size (k0_off7_inb c 1), k0_pay21 (sc m c) (brbC m c) (wbC m c)⟩
/-- Piece 12: the top half of the other plane's right neighbour. -/
def p12 (c : Dev nD) : Piece F := ⟨Rect.unit (s := S4096x256) (k0_off8 c 1#32) S256x256.size (k0_off8_inb c 0), k0_pay22 (sc m c) (blaC m c) (wbC m c)⟩
/-- Piece 13: the first 192 rows of its bottom half. -/
def p13 (c : Dev nD) : Piece F := ⟨Rect.unit (s := S4096x256) (k0_off6 c 1#32 256#32) S192x256.size (k0_off6_inb c 1), k0_pay23 (sc m c) (blbC m c) (wbC m c)⟩
/-- Piece 14: the first 64 rows of the top half of the other plane's left neighbour. -/
def p14 (c : Dev nD) : Piece F := ⟨Rect.unit (s := S4096x256) (k0_off9 c) S64x256.size (k0_off9_inb c), k0_pay24 (sc m c) (c2rC m c) (wbC m c)⟩
/-- Piece 15: the last 64 rows of the bottom half of the other plane's right neighbour. -/
def p15 (c : Dev nD) : Piece F := ⟨Rect.unit (s := S4096x256) (k0_off10 c) S64x256.size (k0_off10_inb c), k0_pay25 (sc m c) (c2lC m c) (wbC m c)⟩
/-- Piece 16: the top half of the other plane's opposite device. -/
def p16 (c : Dev nD) : Piece F := ⟨Rect.unit (s := S4096x256) (k0_off8 c 2#32) S256x256.size (k0_off8_inb c 1), k0_pay26 (sc m c) (c0V m c) (wbC m c)⟩
/-- Piece 17: its bottom half. -/
def p17 (c : Dev nD) : Piece F := ⟨Rect.unit (s := S4096x256) (k0_off7 c 2#32) S256x256.size (k0_off7_inb c 0), k0_pay27 (sc m c) (c1V m c) (wbC m c)⟩

/-- The pieces, in the order they are stored. -/
def pieces (c : Dev nD) : List (Piece F) :=
  [p1 m c, p2 m c, p3 m c, p4 m c, p5 m c, p6 m c, p7 m c, p8 m c, p9 m c, p10 m c, p11 m c, p12 m c, p13 m c, p14 m c, p15 m c, p16 m c, p17 m c]

/-- The result after all the stores, over what was there. -/
def outs (c : Dev nD) (f : Out F) : Out F := (pieces m c).foldl (fun f p => put p f) f

/-! ## What the slots of the own rows hold once stored -/

theorem slot0_stored (c : Dev nD) : ((xcM : Memref sig .tc .vmem S2x256x4096 .fp8e4m3).view.slice rs0).read (Elt F) (xcC m c) = k0_pay2 (top m c) := by
  unfold k0_pay2
  rw [shapeCast_self]
  funext i
  rw [shapeCast_addUnit_apply]
  have h0 : (i 0).val < 1 := (i 0).isLt
  show two (top m c) (bot m c) (rs0.emb i) = _
  rw [two_zero _ _ _ (by show 0 + 1 * (i 0).val = 0; omega)]
  refine congrArg (top m c) (Shape.idx_ext₂ ?_ ?_)
  · show 0 + 1 * (i 1).val = (i 1).val; omega
  · show 0 + 1 * (i 2).val = (i 2).val; omega

theorem slot1_stored (c : Dev nD) : ((xcM : Memref sig .tc .vmem S2x256x4096 .fp8e4m3).view.slice rs1).read (Elt F) (xcC m c) = k0_pay3 (bot m c) := by
  unfold k0_pay3
  rw [shapeCast_self]
  funext i
  rw [shapeCast_addUnit_apply]
  have h0 : (i 0).val < 1 := (i 0).isLt
  show two (top m c) (bot m c) (rs1.emb i) = _
  rw [two_one _ _ _ (by show 1 + 1 * (i 0).val = 1; omega)]
  refine congrArg (bot m c) (Shape.idx_ext₂ ?_ ?_)
  · show 0 + 1 * (i 1).val = (i 1).val; omega
  · show 0 + 1 * (i 2).val = (i 2).val; omega

/-! ## The two ends of each transfer, by name -/

section Ends
variable (c : Dev nD)
theorem snd_z0 : (sndPay m .z0 c : sProp 𝕄) = pts (sl0 xcM) c fullShare.left (xcC m c) := rfl
theorem rcv_z0 : (rcvPay m .z0 c : sProp 𝕄) = pts (sl0 zbM) c fullShare (zbC m c) := rfl
theorem snd_z1 : (sndPay m .z1 c : sProp 𝕄) = pts (sl1 xcM) c fullShare.left (xcC m c) := rfl
theorem rcv_z1 : (rcvPay m .z1 c : sProp 𝕄) = pts (sl1 zbM) c fullShare (zbC m c) := rfl
theorem snd_r0 : (sndPay m .r0 c : sProp 𝕄) = pts (sl0 xcM) c fullShare.right.left (xcC m c) := rfl
theorem rcv_r0 : (rcvPay m .r0 c : sProp 𝕄) = pts tr1M c fullShare (tr1C m c) := rfl
theorem snd_r1 : (sndPay m .r1 c : sProp 𝕄) = pts (sl1 xcM) c fullShare.right.left (xcC m c) := rfl
theorem rcv_r1 : (rcvPay m .r1 c : sProp 𝕄) = pts br1M c fullShare (br1C m c) := rfl
theorem snd_r2 : (sndPay m .r2 c : sProp 𝕄) = pts tr1M c fullShare.left (tr1C m c) := rfl
theorem rcv_r2 : (rcvPay m .r2 c : sProp 𝕄) = pts tr2M c fullShare (tr2C m c) := rfl
theorem snd_l0 : (sndPay m .l0 c : sProp 𝕄) = pts (sl0 xcM) c fullShare.right.right (xcC m c) := rfl
theorem rcv_l0 : (rcvPay m .l0 c : sProp 𝕄) = pts tl1M c fullShare (tl1C m c) := rfl
theorem snd_l1 : (sndPay m .l1 c : sProp 𝕄) = pts (sl1 xcM) c fullShare.right.right (xcC m c) := rfl
theorem rcv_l1 : (rcvPay m .l1 c : sProp 𝕄) = pts bl1M c fullShare (bl1C m c) := rfl
theorem snd_l2 : (sndPay m .l2 c : sProp 𝕄) = pts bl1M c fullShare.left (bl1C m c) := rfl
theorem rcv_l2 : (rcvPay m .l2 c : sProp 𝕄) = pts bl2M c fullShare (bl2C m c) := rfl
theorem snd_bra : (sndPay m .bra c : sProp 𝕄) = pts sbrM c fullShare (sbrC m c) := rfl
theorem rcv_bra : (rcvPay m .bra c : sProp 𝕄) = pts braM c fullShare (braC m c) := rfl
theorem snd_brb : (sndPay m .brb c : sProp 𝕄) = pts (sl1 zbM) c fullShare.left (zbC m c) := rfl
theorem rcv_brb : (rcvPay m .brb c : sProp 𝕄) = pts brbM c fullShare (brbC m c) := rfl
theorem snd_bla : (sndPay m .bla c : sProp 𝕄) = pts (sl0 zbM) c fullShare.left (zbC m c) := rfl
theorem rcv_bla : (rcvPay m .bla c : sProp 𝕄) = pts blaM c fullShare (blaC m c) := rfl
theorem snd_blb : (sndPay m .blb c : sProp 𝕄) = pts sblM c fullShare (sblC m c) := rfl
theorem rcv_blb : (rcvPay m .blb c : sProp 𝕄) = pts blbM c fullShare (blbC m c) := rfl
theorem snd_cr : (sndPay m .cr c : sProp 𝕄) = pts tr2M c fullShare.left (tr2C m c) := rfl
theorem rcv_cr : (rcvPay m .cr c : sProp 𝕄) = pts (sl0 czM) c fullShare (czC m c) := rfl
theorem snd_cl : (sndPay m .cl c : sProp 𝕄) = pts bl2M c fullShare.left (bl2C m c) := rfl
theorem rcv_cl : (rcvPay m .cl c : sProp 𝕄) = pts (sl1 czM) c fullShare (czC m c) := rfl
theorem snd_c2r : (sndPay m .c2r c : sProp 𝕄) = pts scrM c fullShare (scrC m c) := rfl
theorem rcv_c2r : (rcvPay m .c2r c : sProp 𝕄) = pts c2rM c fullShare (c2rC m c) := rfl
theorem snd_c2l : (sndPay m .c2l c : sProp 𝕄) = pts sclM c fullShare (sclC m c) := rfl
theorem rcv_c2l : (rcvPay m .c2l c : sProp 𝕄) = pts c2lM c fullShare (c2lC m c) := rfl
end Ends

/-- A store of a piece of the result. -/
theorem wp_put {α : Type} (c : Dev nD) (p : Piece F) (f : Out F) {hx : ((oM : Memref sig .tc .vmem S4096x256 .f32).access p.r).Stores Finset.univ} {hm}
    {Q : α → sProp 𝕄} {k : PUnit → Prog (TpuEff nD τ sig (Elt F) Λ₀ .tc) α} :
    pts oM c fullShare f ⊢ iprop((pts oM c fullShare (put p f) -∗ runs c (k ⟨⟩) Q)
      -∗ runs c (.op (.store oM p.r p.w Finset.univ hx hm) k) Q) :=
  wp_st c oM f

theorem sub_top : (Rect.unit (s := S2x256x4096) ![0, 64, 0] S1x192x4096.size inb_S2x256x4096_S1x192x4096_0_64_0).toLoadRect.set ⊆ rs0.set := fun i hi => by
  have h := (Rect.mem_set_unit.mp hi 0).2
  have h' : (i 0).val < 0 + 1 := h
  rw [mem_rs0]; omega
theorem sub_bot : (Rect.unit (s := S2x256x4096) ![1, 0, 0] S1x192x4096.size inb_S2x256x4096_S1x192x4096_1_0_0).toLoadRect.set ⊆ rs1.set := fun i hi => by
  have h := Rect.mem_set_unit.mp hi 0
  have h' : 1 ≤ (i 0).val ∧ (i 0).val < 1 + 1 := h
  rw [mem_rs1]; omega

/-- A program that returns ends where it stands. -/
theorem runs_ret {α : Type} (c : Dev nD) {a : α} {Q : α → sProp 𝕄} : Q a ⊢ wp frame (wpE (defs₀ (F := F)) 𝒱₀ (c : Thread nD τ) none) Set.univ (.ret a) Q := by
  rw [wp_ret]; exact fupd_intro

end Cert.AllGather
-- ==== Proof.PartsA.lean ====
/-
# The body's parts, first half

One statement per part of the body: what the part needs, what it leaves, on any device.
-/
module

public import proofs.«01_k».proof.Proof.Pieces

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem hz2 : (![0, 0] : Fin 2 → Nat) = fun _ => 0 := funext fun a => by fin_cases a <;> rfl

section Reads
omit [FloatOps F]
theorem rd_x (f : (cc0_stg0_0 : Ref sig .tc).ty.Contents (Elt F)) :
    (xM : Memref sig .tc .vmem S512x4096 .fp8e4m3).view.readAt (Elt F) (Rect.unit (s := S512x4096) ![0, 0] S512x4096.size inb_S512x4096_S512x4096_0_0).toLoadRect f = f :=
  Memref.readAt_unit_zero (Elt F) cc0_stg0_0 hz2 _ f
theorem rd_w (f : (cc0_stg1_0 : Ref sig .tc).ty.Contents (Elt F)) :
    (wM : Memref sig .tc .vmem S4096x256 .fp8e4m3).view.readAt (Elt F) (Rect.unit (s := S4096x256) ![0, 0] S4096x256.size inb_S4096x256_S4096x256_0_0).toLoadRect f = f :=
  Memref.readAt_unit_zero (Elt F) cc0_stg1_0 hz2 _ f
theorem rd_wb (f : (cc0_scratch1 : Ref sig .tc).ty.Contents (Elt F)) :
    (wbM : Memref sig .tc .vmem S4096x256 .bf16).view.readAt (Elt F) (Rect.unit (s := S4096x256) ![0, 0] S4096x256.size inb_S4096x256_S4096x256_0_0).toLoadRect f = f :=
  Memref.readAt_unit_zero (Elt F) cc0_scratch1 hz2 _ f
theorem rd_tr1 (f : (cc0_scratch3 : Ref sig .tc).ty.Contents (Elt F)) :
    (tr1M : Memref sig .tc .vmem S256x4096 .fp8e4m3).view.readAt (Elt F) (Rect.unit (s := S256x4096) ![0, 0] S256x4096.size inb_S256x4096_S256x4096_0_0).toLoadRect f = f :=
  Memref.readAt_unit_zero (Elt F) cc0_scratch3 hz2 _ f
theorem rd_br1 (f : (cc0_scratch4 : Ref sig .tc).ty.Contents (Elt F)) :
    (br1M : Memref sig .tc .vmem S256x4096 .fp8e4m3).view.readAt (Elt F) (Rect.unit (s := S256x4096) ![0, 0] S256x4096.size inb_S256x4096_S256x4096_0_0).toLoadRect f = f :=
  Memref.readAt_unit_zero (Elt F) cc0_scratch4 hz2 _ f
theorem rd_tr2 (f : (cc0_scratch5 : Ref sig .tc).ty.Contents (Elt F)) :
    (tr2M : Memref sig .tc .vmem S256x4096 .fp8e4m3).view.readAt (Elt F) (Rect.unit (s := S256x4096) ![0, 0] S256x4096.size inb_S256x4096_S256x4096_0_0).toLoadRect f = f :=
  Memref.readAt_unit_zero (Elt F) cc0_scratch5 hz2 _ f
theorem rd_tl1 (f : (cc0_scratch6 : Ref sig .tc).ty.Contents (Elt F)) :
    (tl1M : Memref sig .tc .vmem S256x4096 .fp8e4m3).view.readAt (Elt F) (Rect.unit (s := S256x4096) ![0, 0] S256x4096.size inb_S256x4096_S256x4096_0_0).toLoadRect f = f :=
  Memref.readAt_unit_zero (Elt F) cc0_scratch6 hz2 _ f
theorem rd_bl1 (f : (cc0_scratch7 : Ref sig .tc).ty.Contents (Elt F)) :
    (bl1M : Memref sig .tc .vmem S256x4096 .fp8e4m3).view.readAt (Elt F) (Rect.unit (s := S256x4096) ![0, 0] S256x4096.size inb_S256x4096_S256x4096_0_0).toLoadRect f = f :=
  Memref.readAt_unit_zero (Elt F) cc0_scratch7 hz2 _ f
theorem rd_bl2 (f : (cc0_scratch8 : Ref sig .tc).ty.Contents (Elt F)) :
    (bl2M : Memref sig .tc .vmem S256x4096 .fp8e4m3).view.readAt (Elt F) (Rect.unit (s := S256x4096) ![0, 0] S256x4096.size inb_S256x4096_S256x4096_0_0).toLoadRect f = f :=
  Memref.readAt_unit_zero (Elt F) cc0_scratch8 hz2 _ f
theorem rd_bra (f : (cc0_scratch9 : Ref sig .tc).ty.Contents (Elt F)) :
    (braM : Memref sig .tc .vmem S192x4096 .fp8e4m3).view.readAt (Elt F) (Rect.unit (s := S192x4096) ![0, 0] S192x4096.size inb_S192x4096_S192x4096_0_0).toLoadRect f = f :=
  Memref.readAt_unit_zero (Elt F) cc0_scratch9 hz2 _ f
theorem rd_brb (f : (cc0_scratch10 : Ref sig .tc).ty.Contents (Elt F)) :
    (brbM : Memref sig .tc .vmem S256x4096 .fp8e4m3).view.readAt (Elt F) (Rect.unit (s := S256x4096) ![0, 0] S256x4096.size inb_S256x4096_S256x4096_0_0).toLoadRect f = f :=
  Memref.readAt_unit_zero (Elt F) cc0_scratch10 hz2 _ f
theorem rd_bla (f : (cc0_scratch11 : Ref sig .tc).ty.Contents (Elt F)) :
    (blaM : Memref sig .tc .vmem S256x4096 .fp8e4m3).view.readAt (Elt F) (Rect.unit (s := S256x4096) ![0, 0] S256x4096.size inb_S256x4096_S256x4096_0_0).toLoadRect f = f :=
  Memref.readAt_unit_zero (Elt F) cc0_scratch11 hz2 _ f
theorem rd_blb (f : (cc0_scratch12 : Ref sig .tc).ty.Contents (Elt F)) :
    (blbM : Memref sig .tc .vmem S192x4096 .fp8e4m3).view.readAt (Elt F) (Rect.unit (s := S192x4096) ![0, 0] S192x4096.size inb_S192x4096_S192x4096_0_0).toLoadRect f = f :=
  Memref.readAt_unit_zero (Elt F) cc0_scratch12 hz2 _ f
theorem rd_c2r (f : (cc0_scratch14 : Ref sig .tc).ty.Contents (Elt F)) :
    (c2rM : Memref sig .tc .vmem S64x4096 .fp8e4m3).view.readAt (Elt F) (Rect.unit (s := S64x4096) ![0, 0] S64x4096.size inb_S64x4096_S64x4096_0_0).toLoadRect f = f :=
  Memref.readAt_unit_zero (Elt F) cc0_scratch14 hz2 _ f
theorem rd_c2l (f : (cc0_scratch15 : Ref sig .tc).ty.Contents (Elt F)) :
    (c2lM : Memref sig .tc .vmem S64x4096 .fp8e4m3).view.readAt (Elt F) (Rect.unit (s := S64x4096) ![0, 0] S64x4096.size inb_S64x4096_S64x4096_0_0).toLoadRect f = f :=
  Memref.readAt_unit_zero (Elt F) cc0_scratch15 hz2 _ f
theorem wr_wb (f w : (cc0_scratch1 : Ref sig .tc).ty.Contents (Elt F)) :
    ((wbM : Memref sig .tc .vmem S4096x256 .bf16).access (Rect.unit (s := S4096x256) ![0, 0] S4096x256.size inb_S4096x256_S4096x256_0_0) : View sig .tc _ _ _).write (Elt F) f w Finset.univ = w :=
  Memref.write_access_unit_zero_univ (Elt F) cc0_scratch1 hz2 _ f w
theorem wr_sbr (f w : (cc0_scratch16 : Ref sig .tc).ty.Contents (Elt F)) :
    ((sbrM : Memref sig .tc .vmem S192x4096 .fp8e4m3).access (Rect.unit (s := S192x4096) ![0, 0] S192x4096.size inb_S192x4096_S192x4096_0_0) : View sig .tc _ _ _).write (Elt F) f w Finset.univ = w :=
  Memref.write_access_unit_zero_univ (Elt F) cc0_scratch16 hz2 _ f w
theorem wr_sbl (f w : (cc0_scratch17 : Ref sig .tc).ty.Contents (Elt F)) :
    ((sblM : Memref sig .tc .vmem S192x4096 .fp8e4m3).access (Rect.unit (s := S192x4096) ![0, 0] S192x4096.size inb_S192x4096_S192x4096_0_0) : View sig .tc _ _ _).write (Elt F) f w Finset.univ = w :=
  Memref.write_access_unit_zero_univ (Elt F) cc0_scratch17 hz2 _ f w
theorem wr_scr (f w : (cc0_scratch18 : Ref sig .tc).ty.Contents (Elt F)) :
    ((scrM : Memref sig .tc .vmem S64x4096 .fp8e4m3).access (Rect.unit (s := S64x4096) ![0, 0] S64x4096.size inb_S64x4096_S64x4096_0_0) : View sig .tc _ _ _).write (Elt F) f w Finset.univ = w :=
  Memref.write_access_unit_zero_univ (Elt F) cc0_scratch18 hz2 _ f w
theorem wr_scl (f w : (cc0_scratch19 : Ref sig .tc).ty.Contents (Elt F)) :
    ((sclM : Memref sig .tc .vmem S64x4096 .fp8e4m3).access (Rect.unit (s := S64x4096) ![0, 0] S64x4096.size inb_S64x4096_S64x4096_0_0) : View sig .tc _ _ _).write (Elt F) f w Finset.univ = w :=
  Memref.write_access_unit_zero_univ (Elt F) cc0_scratch19 hz2 _ f w
end Reads

/-- Part 1 only computes with the device's number. -/
theorem part1 (c : Dev nD) {Q : (Σ' (d0 : Dev nD) (v2 : BitVec 32) (v19 : BitVec 32) (v20 : BitVec 32) (v24 : BitVec 32) (v28 : BitVec 32) (v30 : BitVec 32) (v32 : BitVec 32), Sems sig S_) → sProp 𝕄} :
    iprop(∀ a1 a2 a3 a4 a5 a6 a7, Q ⟨c, a1, a2, a3, a4, a5, a6, a7, SemArray.scalar (sig.barrier 0 rfl)⟩)
    ⊢ runs c (k0_part1 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31) Q := by
  rw [k0_part1_eq_skeleton]; unfold k0_part1_skel
  simp only [Prog.lift, Prog.bind_op, Prog.bind_ret, Prog.pure_eq_ret, wp_deviceId]
  iintro Hk
  rw [wp_ret]; imodintro
  iapply Hk

/-- Part 2: the barrier, the scales, and the first transfer. -/
theorem part2 (c : Dev nD) (v24 v30 : BitVec 32) {Q : F .f32 → sProp 𝕄} :
    iprop(ctx m
      ∗ owesE c (O₀ c)
      ∗ dutyTok ER (barCell (lft c)) 0 0
      ∗ dutyTok ER (barCell (rgt c)) 0 1
      ∗ dutyTok ER (barCell (zee c)) 0 2
      ∗ barPay 0 (lft c)
      ∗ barPay 1 (rgt c)
      ∗ barPay 2 (zee c)
      ∗ bar0 c
      ∗ pts sxM c fullShare (sxstg m c)
      ∗ pts swM c fullShare (swstg m c)
      ∗ pts xM c fullShare (xstg m c)
      ∗ free (sl0 xcM) c
      ∗ snd0 .z0 c
      ∗ ((owesE c (owedL c [.r0, .l0, .z1, .r1, .l1, .r2, .l2, .bra, .brb, .bla, .blb, .c2r, .c2l, .cr, .cl]) ∗ zeroAt (barCell c) ∗ (room .r0 c ∗ room .r1 c ∗ room .r2 c ∗ room .bra c ∗ room .brb c) ∗ (room .l0 c ∗ room .l1 c ∗ room .l2 c ∗ room .bla c ∗ room .blb c) ∗ (room .z1 c ∗ room .cr c ∗ room .cl c ∗ room .c2r c ∗ room .c2l c) ∗ pts sxM c fullShare (sxstg m c) ∗ pts swM c fullShare (swstg m c) ∗ pts xM c fullShare (xstg m c) ∗ pts (sl0 xcM) c fullShare.right.left (xcC m c) ∗ pts (sl0 xcM) c fullShare.right.right (xcC m c) ∗ snd1 .z0 c) -∗ Q (sc m c)))
    ⊢ runs c (k0_part2 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v24 v30 (SemArray.scalar (sig.barrier 0 rfl))) Q := by
  rw [k0_part2_eq_skeleton]; unfold k0_part2_skel
  simp only [semSignalWord, semWaitWord, smemLoad, smemLoadElt, Prog.lift, Prog.bind_op, Prog.bind_ret, Prog.pure_eq_ret]
  iintro ⟨#Hctx, HO, T0, T1, T2, B0, B1, B2, Hbar, Hsx, Hsw, Hx, X0, Sz0, Hk⟩
  iapply (wp_bar_signal m c (lft c) _ (dev1_eq c) 0 (O₁ c) (by decide)) $$ [HO T0 B0]
  · isplitr; · iexact Hctx
    isplitl [HO]; · iexact HO
    isplitl [T0] <;> iassumption
  iintro HO
  iapply (wp_bar_signal m c (rgt c) _ (dev2_eq c) 1 (O₂ c) (by decide)) $$ [HO T1 B1]
  · isplitr; · iexact Hctx
    isplitl [HO]; · iexact HO
    isplitl [T1] <;> iassumption
  iintro HO
  iapply (wp_bar_signal m c (zee c) _ (dev3_eq c) 2 (owedL c [.z0, .r0, .l0, .z1, .r1, .l1, .r2, .l2, .bra, .brb, .bla, .blb, .c2r, .c2l, .cr, .cl]) (by decide)) $$ [HO T2 B2]
  · isplitr; · iexact Hctx
    isplitl [HO]; · iexact HO
    isplitl [T2] <;> iassumption
  iintro HO
  iapply (wp_bar_wait m c [.z0, .r0, .l0, .z1, .r1, .l1, .r2, .l2, .bra, .brb, .bla, .blb, .c2r, .c2l, .cr, .cl] (by decide) (by decide)) $$ [HO Hbar]
  · isplitr; · iexact Hctx
    isplitl [HO] <;> iassumption
  iintro ⟨HO, Hzb, P0, P1, P2⟩
  unfold barPay
  icases P2 with ⟨Rz0, P2⟩
  iapply (wp_ld c sxM fullShare (sxstg m c) (_) (rfl)) $$ Hsx; iintro Hsx
  iapply (wp_ld c swM fullShare (swstg m c) (_) (rfl)) $$ Hsw; iintro Hsw
  iapply (wp_ld c xM fullShare (xstg m c) (top m c) (rfl)) $$ Hx; iintro Hx
  iapply (wp_ld0_free c xcM (r := rs0.toLoadRect) (Finset.Subset.refl _)) $$ X0; iintro %_ X0
  iapply (wp_fill0 c xcM (xcC m c) (slot0_stored m c)) $$ X0; iintro X0
  ihave H := (thirds (sl0 xcM) c (xcC m c)) $$ X0
  icases H with ⟨X0z, X0r, X0l⟩
  iapply (wp_xfer m c .z0 [.r0, .l0, .z1, .r1, .l1, .r2, .l2, .bra, .brb, .bla, .blb, .c2r, .c2l, .cr, .cl] _ (dev4_eq c)) $$ [HO Sz0 Rz0 X0z]
  · isplitr; · iexact Hctx
    isplitl [HO]; · iexact HO
    isplitl [Sz0]; · iexact Sz0
    isplitl [Rz0]; · iexact Rz0
    rw [snd_z0]; iexact X0z
  iintro ⟨HO, Sz0⟩
  unfold sc
  iapply (runs_ret c)
  iapply Hk
  isplitl [HO]; · iexact HO
  isplitl [Hzb]; · iexact Hzb
  isplitl [P0]; · iexact P0
  isplitl [P1]; · iexact P1
  isplitl [P2]; · iexact P2
  isplitl [Hsx]; · iexact Hsx
  isplitl [Hsw]; · iexact Hsw
  isplitl [Hx]; · iexact Hx
  isplitl [X0r]; · iexact X0r
  isplitl [X0l]; · iexact X0l
  iexact Sz0

/-- Part 3: the first half to both sides, and the second half's first transfer. -/
theorem part3 (c : Dev nD) (v28 v30 : BitVec 32) {Q : PUnit → sProp 𝕄} :
    iprop(ctx m
      ∗ owesE c (owedL c [.r0, .l0, .z1, .r1, .l1, .r2, .l2, .bra, .brb, .bla, .blb, .c2r, .c2l, .cr, .cl])
      ∗ room .r0 c
      ∗ room .l0 c
      ∗ room .z1 c
      ∗ pts (sl0 xcM) c fullShare.right.left (xcC m c)
      ∗ pts (sl0 xcM) c fullShare.right.right (xcC m c)
      ∗ pts xM c fullShare (xstg m c)
      ∗ free (sl1 xcM) c
      ∗ snd0 .r0 c
      ∗ snd0 .l0 c
      ∗ snd0 .z1 c
      ∗ ((owesE c (owedL c [.r1, .l1, .r2, .l2, .bra, .brb, .bla, .blb, .c2r, .c2l, .cr, .cl]) ∗ pts xM c fullShare (xstg m c) ∗ pts (sl1 xcM) c fullShare.right.left (xcC m c) ∗ pts (sl1 xcM) c fullShare.right.right (xcC m c) ∗ snd1 .r0 c ∗ snd1 .l0 c ∗ snd1 .z1 c) -∗ Q ⟨⟩))
    ⊢ runs c (k0_part3 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v28 v30) Q := by
  rw [k0_part3_eq_skeleton]; unfold k0_part3_skel
  simp only [semSignalWord, semWaitWord, smemLoad, smemLoadElt, Prog.lift, Prog.bind_op, Prog.bind_ret, Prog.pure_eq_ret]
  iintro ⟨#Hctx, HO, Rr0, Rl0, Rz1, X0r, X0l, Hx, X1, Sr0, Sl0, Sz1, Hk⟩
  iapply (wp_xfer m c .r0 [.l0, .z1, .r1, .l1, .r2, .l2, .bra, .brb, .bla, .blb, .c2r, .c2l, .cr, .cl] _ (dev5_eq c)) $$ [HO Sr0 Rr0 X0r]
  · isplitr; · iexact Hctx
    isplitl [HO]; · iexact HO
    isplitl [Sr0]; · iexact Sr0
    isplitl [Rr0]; · iexact Rr0
    rw [snd_r0]; iexact X0r
  iintro ⟨HO, Sr0⟩
  iapply (wp_xfer m c .l0 [.z1, .r1, .l1, .r2, .l2, .bra, .brb, .bla, .blb, .c2r, .c2l, .cr, .cl] _ (dev6_eq c)) $$ [HO Sl0 Rl0 X0l]
  · isplitr; · iexact Hctx
    isplitl [HO]; · iexact HO
    isplitl [Sl0]; · iexact Sl0
    isplitl [Rl0]; · iexact Rl0
    rw [snd_l0]; iexact X0l
  iintro ⟨HO, Sl0⟩
  iapply (wp_ld c xM fullShare (xstg m c) (bot m c) (rfl)) $$ Hx; iintro Hx
  iapply (wp_ld1_free c xcM (r := rs1.toLoadRect) (Finset.Subset.refl _)) $$ X1; iintro %_ X1
  iapply (wp_fill1 c xcM (xcC m c) (slot1_stored m c)) $$ X1; iintro X1
  ihave H := (thirds (sl1 xcM) c (xcC m c)) $$ X1
  icases H with ⟨X1z, X1r, X1l⟩
  iapply (wp_xfer m c .z1 [.r1, .l1, .r2, .l2, .bra, .brb, .bla, .blb, .c2r, .c2l, .cr, .cl] _ (dev7_eq c)) $$ [HO Sz1 Rz1 X1z]
  · isplitr; · iexact Hctx
    isplitl [HO]; · iexact HO
    isplitl [Sz1]; · iexact Sz1
    isplitl [Rz1]; · iexact Rz1
    rw [snd_z1]; iexact X1z
  iintro ⟨HO, Sz1⟩
  iapply (runs_ret c)
  iapply Hk
  isplitl [HO]; · iexact HO
  isplitl [Hx]; · iexact Hx
  isplitl [X1r]; · iexact X1r
  isplitl [X1l]; · iexact X1l
  isplitl [Sr0]; · iexact Sr0
  isplitl [Sl0]; · iexact Sl0
  iexact Sz1

/-- Part 4: the second half to both sides, `w` widened, and the product of the own rows. -/
theorem part4 (c : Dev nD) (v2 v24 v28 : BitVec 32) (f : Out F) {Q : FVec F S512x256 .f32 → sProp 𝕄} :
    iprop(ctx m
      ∗ owesE c (owedL c [.r1, .l1, .r2, .l2, .bra, .brb, .bla, .blb, .c2r, .c2l, .cr, .cl])
      ∗ room .r1 c
      ∗ room .l1 c
      ∗ pts (sl1 xcM) c fullShare.right.left (xcC m c)
      ∗ pts (sl1 xcM) c fullShare.right.right (xcC m c)
      ∗ pts xM c fullShare (xstg m c)
      ∗ pts wM c fullShare (wstg m c)
      ∗ free wbM c
      ∗ pts oM c fullShare f
      ∗ snd0 .r1 c
      ∗ snd0 .l1 c
      ∗ ((owesE c (owedL c [.r2, .l2, .bra, .brb, .bla, .blb, .c2r, .c2l, .cr, .cl]) ∗ pts xM c fullShare (xstg m c) ∗ pts wM c fullShare (wstg m c) ∗ pts wbM c fullShare (wbC m c) ∗ pts oM c fullShare f ∗ snd1 .r1 c ∗ snd1 .l1 c) -∗ Q (k0_pay5 (sc m c) (xstg m c) (wbC m c))))
    ⊢ runs c (k0_part4 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v2 v24 v28 (sc m c)) Q := by
  rw [k0_part4_eq_skeleton]; unfold k0_part4_skel
  simp only [semSignalWord, semWaitWord, smemLoad, smemLoadElt, Prog.lift, Prog.bind_op, Prog.bind_ret, Prog.pure_eq_ret]
  iintro ⟨#Hctx, HO, Rr1, Rl1, X1r, X1l, Hx, Hw, Hwb, Hout, Sr1, Sl1, Hk⟩
  iapply (wp_xfer m c .r1 [.l1, .r2, .l2, .bra, .brb, .bla, .blb, .c2r, .c2l, .cr, .cl] _ (dev8_eq c)) $$ [HO Sr1 Rr1 X1r]
  · isplitr; · iexact Hctx
    isplitl [HO]; · iexact HO
    isplitl [Sr1]; · iexact Sr1
    isplitl [Rr1]; · iexact Rr1
    rw [snd_r1]; iexact X1r
  iintro ⟨HO, Sr1⟩
  iapply (wp_xfer m c .l1 [.r2, .l2, .bra, .brb, .bla, .blb, .c2r, .c2l, .cr, .cl] _ (dev9_eq c)) $$ [HO Sl1 Rl1 X1l]
  · isplitr; · iexact Hctx
    isplitl [HO]; · iexact HO
    isplitl [Sl1]; · iexact Sl1
    isplitl [Rl1]; · iexact Rl1
    rw [snd_l1]; iexact X1l
  iintro ⟨HO, Sl1⟩
  iapply (wp_ld c wM fullShare (wstg m c) (wstg m c) (rd_w _)) $$ Hw; iintro Hw
  iapply (wp_ld_free c wbM) $$ Hwb; iintro %_ Hwb
  iapply (wp_fill c wbM (wbC m c) (fun f => wr_wb f _)) $$ Hwb; iintro Hwb
  iapply (wp_ld c xM fullShare (xstg m c) (xstg m c) (rd_x _)) $$ Hx; iintro Hx
  iapply (wp_ld c wbM fullShare (wbC m c) (wbC m c) (rd_wb _)) $$ Hwb; iintro Hwb
  iapply (wp_ld_any c oM fullShare f) $$ Hout; iintro %_ Hout
  iapply (runs_ret c)
  iapply Hk
  isplitl [HO]; · iexact HO
  isplitl [Hx]; · iexact Hx
  isplitl [Hw]; · iexact Hw
  isplitl [Hwb]; · iexact Hwb
  isplitl [Hout]; · iexact Hout
  isplitl [Sr1]; · iexact Sr1
  iexact Sl1

end Cert.AllGather
-- ==== Proof.PartsB.lean ====
/-
# The body's parts, second quarter

Parts 5 to 9: the rows passed on round the ring, and the products of the neighbours' rows.
-/
module

public import proofs.«01_k».proof.Proof.PartsA

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Part 5: the own piece stored; the left neighbour's top half lands, is passed on and staged. -/
theorem part5 (c : Dev nD) (v19 v20 v24 : BitVec 32) (f : Out F) {Q : (Σ' (v126 : BitVec 32) (v130 : BitVec 32) (v134 : BitVec 32) (v151 : Vec F S256x4096 .fp8e4m3), BitVec 32) → sProp 𝕄} :
    iprop(ctx m
      ∗ owesE c (owedL c [.r2, .l2, .bra, .brb, .bla, .blb, .c2r, .c2l, .cr, .cl])
      ∗ pts oM c fullShare f
      ∗ rcv0 .r0 c
      ∗ room .r2 c
      ∗ snd0 .r2 c
      ∗ free scrM c
      ∗ (∀ a1 a2 a3 a4, (owesE c (owedL c [.l2, .bra, .brb, .bla, .blb, .c2r, .c2l, .cr, .cl]) ∗ pts oM c fullShare (put (p1 m c) f) ∗ zeroAt (rcvCell .r0 c) ∗ snd1 .r2 c ∗ pts tr1M c fullShare.right (tr1C m c) ∗ pts scrM c fullShare (scrC m c)) -∗ Q ⟨a1, a2, a3, tr1C m c, a4⟩))
    ⊢ runs c (k0_part5 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v19 v20 v24 (k0_pay5 (sc m c) (xstg m c) (wbC m c))) Q := by
  rw [k0_part5_eq_skeleton]; unfold k0_part5_skel
  simp only [semSignalWord, semWaitWord, smemLoad, smemLoadElt, Prog.lift, Prog.bind_op, Prog.bind_ret, Prog.pure_eq_ret]
  iintro ⟨#Hctx, HO, Hout, Vr0, Rr2, Sr2, Hscr, Hk⟩
  iapply (wp_put c (p1 m c) f) $$ Hout; iintro Hout
  iapply (wp_landed m c .r0 [.r2, .l2, .bra, .brb, .bla, .blb, .c2r, .c2l, .cr, .cl] (by decide)) $$ [HO Vr0]
  · isplitr; · iexact Hctx
    isplitl [HO] <;> iassumption
  rw [rcv_r0]
  iintro ⟨HO, Zr0, T1⟩
  ihave H := (halves tr1M c (tr1C m c)) $$ T1
  icases H with ⟨T1l, T1⟩
  iapply (wp_xfer m c .r2 [.l2, .bra, .brb, .bla, .blb, .c2r, .c2l, .cr, .cl] _ (dev10_eq c)) $$ [HO Sr2 Rr2 T1l]
  · isplitr; · iexact Hctx
    isplitl [HO]; · iexact HO
    isplitl [Sr2]; · iexact Sr2
    isplitl [Rr2]; · iexact Rr2
    rw [snd_r2]; iexact T1l
  iintro ⟨HO, Sr2⟩
  iapply (wp_ld c tr1M fullShare.right (tr1C m c) (_) (rfl)) $$ T1; iintro T1
  iapply (wp_ld_free c scrM) $$ Hscr; iintro %_ Hscr
  iapply (wp_fill c scrM (scrC m c) (fun f => wr_scr f _)) $$ Hscr; iintro Hscr
  iapply (wp_ld c tr1M fullShare.right (tr1C m c) (tr1C m c) (rd_tr1 _)) $$ T1; iintro T1
  iapply (runs_ret c)
  iapply Hk
  isplitl [HO]; · iexact HO
  isplitl [Hout]; · iexact Hout
  isplitl [Zr0]; · iexact Zr0
  isplitl [Sr2]; · iexact Sr2
  isplitl [T1]; · iexact T1
  iexact Hscr

/-- Part 6: two top halves' pieces. -/
theorem part6 (c : Dev nD) (v28 v126 v130 v5 : BitVec 32) (f : Out F) {Q : PUnit → sProp 𝕄} :
    iprop(ctx m
      ∗ owesE c (owedL c [.l2, .bra, .brb, .bla, .blb, .c2r, .c2l, .cr, .cl])
      ∗ pts wbM c fullShare (wbC m c)
      ∗ pts oM c fullShare f
      ∗ rcv0 .l0 c
      ∗ ((owesE c (owedL c [.l2, .bra, .brb, .bla, .blb, .c2r, .c2l, .cr, .cl]) ∗ pts wbM c fullShare (wbC m c) ∗ pts oM c fullShare (put (p3 m c) (put (p2 m c) f)) ∗ zeroAt (rcvCell .l0 c) ∗ pts tl1M c fullShare (tl1C m c)) -∗ Q ⟨⟩))
    ⊢ runs c (k0_part6 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v28 (sc m c) v126 v130 (tr1C m c) v5) Q := by
  rw [k0_part6_eq_skeleton]; unfold k0_part6_skel
  simp only [semSignalWord, semWaitWord, smemLoad, smemLoadElt, Prog.lift, Prog.bind_op, Prog.bind_ret, Prog.pure_eq_ret]
  iintro ⟨#Hctx, HO, Hwb, Hout, Vl0, Hk⟩
  iapply (wp_ld c wbM fullShare (wbC m c) (wbC m c) (rd_wb _)) $$ Hwb; iintro Hwb
  iapply (wp_ld_any c oM fullShare f) $$ Hout; iintro %_ Hout
  iapply (wp_put c (p2 m c) f) $$ Hout; iintro Hout
  iapply (wp_landed m c .l0 [.l2, .bra, .brb, .bla, .blb, .c2r, .c2l, .cr, .cl] (by decide)) $$ [HO Vl0]
  · isplitr; · iexact Hctx
    isplitl [HO] <;> iassumption
  rw [rcv_l0]
  iintro ⟨HO, Zl0, T2⟩
  iapply (wp_ld c tl1M fullShare (tl1C m c) (tl1C m c) (rd_tl1 _)) $$ T2; iintro T2
  iapply (wp_ld c wbM fullShare (wbC m c) (wbC m c) (rd_wb _)) $$ Hwb; iintro Hwb
  iapply (wp_ld_any c oM fullShare (put (p2 m c) f)) $$ Hout; iintro %_ Hout
  iapply (wp_put c (p3 m c) (put (p2 m c) f)) $$ Hout; iintro Hout
  iapply (runs_ret c)
  iapply Hk
  isplitl [HO]; · iexact HO
  isplitl [Hwb]; · iexact Hwb
  isplitl [Hout]; · iexact Hout
  isplitl [Zl0]; · iexact Zl0
  iexact T2

/-- Part 7: the right neighbour's bottom half lands, is passed on, staged and multiplied; the left neighbour's lands. -/
theorem part7 (c : Dev nD) (v24 v28 v130 : BitVec 32) (f : Out F) {Q : PUnit → sProp 𝕄} :
    iprop(ctx m
      ∗ owesE c (owedL c [.l2, .bra, .brb, .bla, .blb, .c2r, .c2l, .cr, .cl])
      ∗ pts wbM c fullShare (wbC m c)
      ∗ pts oM c fullShare f
      ∗ rcv0 .l1 c
      ∗ room .l2 c
      ∗ snd0 .l2 c
      ∗ free sclM c
      ∗ rcv0 .r1 c
      ∗ ((owesE c (owedL c [.bra, .brb, .bla, .blb, .c2r, .c2l, .cr, .cl]) ∗ pts wbM c fullShare (wbC m c) ∗ pts oM c fullShare (put (p4 m c) f) ∗ zeroAt (rcvCell .l1 c) ∗ snd1 .l2 c ∗ pts bl1M c fullShare.right (bl1C m c) ∗ pts sclM c fullShare (sclC m c) ∗ zeroAt (rcvCell .r1 c) ∗ pts br1M c fullShare (br1C m c)) -∗ Q ⟨⟩))
    ⊢ runs c (k0_part7 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v24 v28 (sc m c) v130) Q := by
  rw [k0_part7_eq_skeleton]; unfold k0_part7_skel
  simp only [semSignalWord, semWaitWord, smemLoad, smemLoadElt, Prog.lift, Prog.bind_op, Prog.bind_ret, Prog.pure_eq_ret]
  iintro ⟨#Hctx, HO, Hwb, Hout, Vl1, Rl2, Sl2, Hscl, Vr1, Hk⟩
  iapply (wp_landed m c .l1 [.l2, .bra, .brb, .bla, .blb, .c2r, .c2l, .cr, .cl] (by decide)) $$ [HO Vl1]
  · isplitr; · iexact Hctx
    isplitl [HO] <;> iassumption
  rw [rcv_l1]
  iintro ⟨HO, Zl1, T1⟩
  ihave H := (halves bl1M c (bl1C m c)) $$ T1
  icases H with ⟨T1l, T1⟩
  iapply (wp_xfer m c .l2 [.bra, .brb, .bla, .blb, .c2r, .c2l, .cr, .cl] _ (dev11_eq c)) $$ [HO Sl2 Rl2 T1l]
  · isplitr; · iexact Hctx
    isplitl [HO]; · iexact HO
    isplitl [Sl2]; · iexact Sl2
    isplitl [Rl2]; · iexact Rl2
    rw [snd_l2]; iexact T1l
  iintro ⟨HO, Sl2⟩
  iapply (wp_ld c bl1M fullShare.right (bl1C m c) (_) (rfl)) $$ T1; iintro T1
  iapply (wp_ld_free c sclM) $$ Hscl; iintro %_ Hscl
  iapply (wp_fill c sclM (sclC m c) (fun f => wr_scl f _)) $$ Hscl; iintro Hscl
  iapply (wp_ld c bl1M fullShare.right (bl1C m c) (bl1C m c) (rd_bl1 _)) $$ T1; iintro T1
  iapply (wp_ld c wbM fullShare (wbC m c) (wbC m c) (rd_wb _)) $$ Hwb; iintro Hwb
  iapply (wp_ld_any c oM fullShare f) $$ Hout; iintro %_ Hout
  iapply (wp_put c (p4 m c) f) $$ Hout; iintro Hout
  iapply (wp_landed m c .r1 [.bra, .brb, .bla, .blb, .c2r, .c2l, .cr, .cl] (by decide)) $$ [HO Vr1]
  · isplitr; · iexact Hctx
    isplitl [HO] <;> iassumption
  rw [rcv_r1]
  iintro ⟨HO, Zr1, T2⟩
  iapply (runs_ret c)
  iapply Hk
  isplitl [HO]; · iexact HO
  isplitl [Hwb]; · iexact Hwb
  isplitl [Hout]; · iexact Hout
  isplitl [Zl1]; · iexact Zl1
  isplitl [Sl2]; · iexact Sl2
  isplitl [T1]; · iexact T1
  isplitl [Hscl]; · iexact Hscl
  isplitl [Zr1]; · iexact Zr1
  iexact T2

/-- Part 8: the left neighbour's bottom half's piece; the other plane's rows land. -/
theorem part8 (c : Dev nD) (v30 v126 : BitVec 32) (f : Out F) {Q : PUnit → sProp 𝕄} :
    iprop(ctx m
      ∗ owesE c (owedL c [.bra, .brb, .bla, .blb, .c2r, .c2l, .cr, .cl])
      ∗ pts wbM c fullShare (wbC m c)
      ∗ pts oM c fullShare f
      ∗ pts br1M c fullShare (br1C m c)
      ∗ rcv0 .z0 c
      ∗ rcv0 .z1 c
      ∗ ((owesE c (owedL c [.bra, .brb, .bla, .blb, .c2r, .c2l, .cr, .cl]) ∗ pts wbM c fullShare (wbC m c) ∗ pts oM c fullShare (put (p5 m c) f) ∗ pts br1M c fullShare (br1C m c) ∗ zeroAt (rcvCell .z0 c) ∗ pts (sl0 zbM) c fullShare (zbC m c) ∗ zeroAt (rcvCell .z1 c) ∗ pts (sl1 zbM) c fullShare (zbC m c)) -∗ Q ⟨⟩))
    ⊢ runs c (k0_part8 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v30 (sc m c) v126) Q := by
  rw [k0_part8_eq_skeleton]; unfold k0_part8_skel
  simp only [semSignalWord, semWaitWord, smemLoad, smemLoadElt, Prog.lift, Prog.bind_op, Prog.bind_ret, Prog.pure_eq_ret]
  iintro ⟨#Hctx, HO, Hwb, Hout, T2, Vz0, Vz1, Hk⟩
  iapply (wp_ld c br1M fullShare (br1C m c) (br1C m c) (rd_br1 _)) $$ T2; iintro T2
  iapply (wp_ld c wbM fullShare (wbC m c) (wbC m c) (rd_wb _)) $$ Hwb; iintro Hwb
  iapply (wp_ld_any c oM fullShare f) $$ Hout; iintro %_ Hout
  iapply (wp_put c (p5 m c) f) $$ Hout; iintro Hout
  iapply (wp_landed m c .z0 [.bra, .brb, .bla, .blb, .c2r, .c2l, .cr, .cl] (by decide)) $$ [HO Vz0]
  · isplitr; · iexact Hctx
    isplitl [HO] <;> iassumption
  rw [rcv_z0]
  iintro ⟨HO, Zz0, Z0⟩
  iapply (wp_landed m c .z1 [.bra, .brb, .bla, .blb, .c2r, .c2l, .cr, .cl] (by decide)) $$ [HO Vz1]
  · isplitr; · iexact Hctx
    isplitl [HO] <;> iassumption
  rw [rcv_z1]
  iintro ⟨HO, Zz1, Z1⟩
  iapply (runs_ret c)
  iapply Hk
  isplitl [HO]; · iexact HO
  isplitl [Hwb]; · iexact Hwb
  isplitl [Hout]; · iexact Hout
  isplitl [T2]; · iexact T2
  isplitl [Zz0]; · iexact Zz0
  isplitl [Z0]; · iexact Z0
  isplitl [Zz1]; · iexact Zz1
  iexact Z1

/-- Part 9: the other plane's rows staged and passed to the right. -/
theorem part9 (c : Dev nD) (v24 v28 : BitVec 32) {Q : PUnit → sProp 𝕄} :
    iprop(ctx m
      ∗ owesE c (owedL c [.bra, .brb, .bla, .blb, .c2r, .c2l, .cr, .cl])
      ∗ pts (sl0 zbM) c fullShare (zbC m c)
      ∗ pts (sl1 zbM) c fullShare (zbC m c)
      ∗ free sbrM c
      ∗ free sblM c
      ∗ room .bra c
      ∗ room .brb c
      ∗ snd0 .bra c
      ∗ snd0 .brb c
      ∗ ((owesE c (owedL c [.bla, .blb, .c2r, .c2l, .cr, .cl]) ∗ pts (sl0 zbM) c fullShare (zbC m c) ∗ pts (sl1 zbM) c fullShare.right (zbC m c) ∗ pts sblM c fullShare (sblC m c) ∗ snd1 .bra c ∗ snd1 .brb c) -∗ Q ⟨⟩))
    ⊢ runs c (k0_part9 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v24 v28) Q := by
  rw [k0_part9_eq_skeleton]; unfold k0_part9_skel
  simp only [semSignalWord, semWaitWord, smemLoad, smemLoadElt, Prog.lift, Prog.bind_op, Prog.bind_ret, Prog.pure_eq_ret]
  iintro ⟨#Hctx, HO, Z0, Z1, Hsbr, Hsbl, Rbra, Rbrb, Sbra, Sbrb, Hk⟩
  iapply (wp_ld0 c zbM fullShare (zbC m c) (sub_top)) $$ Z0; iintro Z0
  iapply (wp_ld_free c sbrM) $$ Hsbr; iintro %_ Hsbr
  iapply (wp_fill c sbrM (sbrC m c) (fun f => wr_sbr f _)) $$ Hsbr; iintro Hsbr
  iapply (wp_ld1 c zbM fullShare (zbC m c) (sub_bot)) $$ Z1; iintro Z1
  iapply (wp_ld_free c sblM) $$ Hsbl; iintro %_ Hsbl
  iapply (wp_fill c sblM (sblC m c) (fun f => wr_sbl f _)) $$ Hsbl; iintro Hsbl
  iapply (wp_xfer m c .bra [.brb, .bla, .blb, .c2r, .c2l, .cr, .cl] _ (dev12_eq c)) $$ [HO Sbra Rbra Hsbr]
  · isplitr; · iexact Hctx
    isplitl [HO]; · iexact HO
    isplitl [Sbra]; · iexact Sbra
    isplitl [Rbra]; · iexact Rbra
    rw [snd_bra]; iexact Hsbr
  iintro ⟨HO, Sbra⟩
  ihave H := (halves (sl1 zbM) c (zbC m c)) $$ Z1
  icases H with ⟨Z1l, Z1⟩
  iapply (wp_xfer m c .brb [.bla, .blb, .c2r, .c2l, .cr, .cl] _ (dev13_eq c)) $$ [HO Sbrb Rbrb Z1l]
  · isplitr; · iexact Hctx
    isplitl [HO]; · iexact HO
    isplitl [Sbrb]; · iexact Sbrb
    isplitl [Rbrb]; · iexact Rbrb
    rw [snd_brb]; iexact Z1l
  iintro ⟨HO, Sbrb⟩
  iapply (runs_ret c)
  iapply Hk
  isplitl [HO]; · iexact HO
  isplitl [Z0]; · iexact Z0
  isplitl [Z1]; · iexact Z1
  isplitl [Hsbl]; · iexact Hsbl
  isplitl [Sbra]; · iexact Sbra
  iexact Sbrb

end Cert.AllGather
-- ==== Proof.PartsC.lean ====
/-
# The body's parts, third quarter

Parts 10 to 14: the other plane's rows passed on and multiplied.
-/
module

public import proofs.«01_k».proof.Proof.PartsA

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Part 10: four transfers, and the other plane's top half's piece. -/
theorem part10 (c : Dev nD) (v28 v30 : BitVec 32) (f : Out F) {Q : PUnit → sProp 𝕄} :
    iprop(ctx m
      ∗ owesE c (owedL c [.bla, .blb, .c2r, .c2l, .cr, .cl])
      ∗ pts wbM c fullShare (wbC m c)
      ∗ pts oM c fullShare f
      ∗ pts (sl0 zbM) c fullShare (zbC m c)
      ∗ pts sblM c fullShare (sblC m c)
      ∗ pts scrM c fullShare (scrC m c)
      ∗ pts sclM c fullShare (sclC m c)
      ∗ room .bla c
      ∗ room .blb c
      ∗ room .c2r c
      ∗ room .c2l c
      ∗ snd0 .bla c
      ∗ snd0 .blb c
      ∗ snd0 .c2r c
      ∗ snd0 .c2l c
      ∗ ((owesE c (owedL c [.cr, .cl]) ∗ pts wbM c fullShare (wbC m c) ∗ pts oM c fullShare (put (p6 m c) f) ∗ pts (sl0 zbM) c fullShare.right (zbC m c) ∗ snd1 .bla c ∗ snd1 .blb c ∗ snd1 .c2r c ∗ snd1 .c2l c) -∗ Q ⟨⟩))
    ⊢ runs c (k0_part10 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v28 v30 (sc m c)) Q := by
  rw [k0_part10_eq_skeleton]; unfold k0_part10_skel
  simp only [semSignalWord, semWaitWord, smemLoad, smemLoadElt, Prog.lift, Prog.bind_op, Prog.bind_ret, Prog.pure_eq_ret]
  iintro ⟨#Hctx, HO, Hwb, Hout, Z0, Hsbl, Hscr, Hscl, Rbla, Rblb, Rc2r, Rc2l, Sbla, Sblb, Sc2r, Sc2l, Hk⟩
  ihave H := (halves (sl0 zbM) c (zbC m c)) $$ Z0
  icases H with ⟨Z0l, Z0⟩
  iapply (wp_xfer m c .bla [.blb, .c2r, .c2l, .cr, .cl] _ (dev14_eq c)) $$ [HO Sbla Rbla Z0l]
  · isplitr; · iexact Hctx
    isplitl [HO]; · iexact HO
    isplitl [Sbla]; · iexact Sbla
    isplitl [Rbla]; · iexact Rbla
    rw [snd_bla]; iexact Z0l
  iintro ⟨HO, Sbla⟩
  iapply (wp_xfer m c .blb [.c2r, .c2l, .cr, .cl] _ (dev15_eq c)) $$ [HO Sblb Rblb Hsbl]
  · isplitr; · iexact Hctx
    isplitl [HO]; · iexact HO
    isplitl [Sblb]; · iexact Sblb
    isplitl [Rblb]; · iexact Rblb
    rw [snd_blb]; iexact Hsbl
  iintro ⟨HO, Sblb⟩
  iapply (wp_xfer m c .c2r [.c2l, .cr, .cl] _ (dev16_eq c)) $$ [HO Sc2r Rc2r Hscr]
  · isplitr; · iexact Hctx
    isplitl [HO]; · iexact HO
    isplitl [Sc2r]; · iexact Sc2r
    isplitl [Rc2r]; · iexact Rc2r
    rw [snd_c2r]; iexact Hscr
  iintro ⟨HO, Sc2r⟩
  iapply (wp_xfer m c .c2l [.cr, .cl] _ (dev17_eq c)) $$ [HO Sc2l Rc2l Hscl]
  · isplitr; · iexact Hctx
    isplitl [HO]; · iexact HO
    isplitl [Sc2l]; · iexact Sc2l
    isplitl [Rc2l]; · iexact Rc2l
    rw [snd_c2l]; iexact Hscl
  iintro ⟨HO, Sc2l⟩
  iapply (wp_ld0 c zbM fullShare.right (zbC m c) (Finset.Subset.refl _)) $$ Z0; iintro Z0
  iapply (wp_ld c wbM fullShare (wbC m c) (wbC m c) (rd_wb _)) $$ Hwb; iintro Hwb
  iapply (wp_ld_any c oM fullShare f) $$ Hout; iintro %_ Hout
  iapply (wp_put c (p6 m c) f) $$ Hout; iintro Hout
  iapply (runs_ret c)
  iapply Hk
  isplitl [HO]; · iexact HO
  isplitl [Hwb]; · iexact Hwb
  isplitl [Hout]; · iexact Hout
  isplitl [Z0]; · iexact Z0
  isplitl [Sbla]; · iexact Sbla
  isplitl [Sblb]; · iexact Sblb
  isplitl [Sc2r]; · iexact Sc2r
  iexact Sc2l

/-- Part 11: the other plane's bottom half's piece; the opposite device's top half lands, is passed on and multiplied. -/
theorem part11 (c : Dev nD) (v24 v30 v134 : BitVec 32) (f : Out F) {Q : (Σ' (v329 : BitVec 32), FVec F S256x256 .f32) → sProp 𝕄} :
    iprop(ctx m
      ∗ owesE c (owedL c [.cr, .cl])
      ∗ pts wbM c fullShare (wbC m c)
      ∗ pts oM c fullShare f
      ∗ pts (sl1 zbM) c fullShare.right (zbC m c)
      ∗ rcv0 .r2 c
      ∗ room .cr c
      ∗ snd0 .cr c
      ∗ (∀ a1, (owesE c (owedL c [.cl]) ∗ pts wbM c fullShare (wbC m c) ∗ pts oM c fullShare (put (p7 m c) f) ∗ pts (sl1 zbM) c fullShare.right (zbC m c) ∗ zeroAt (rcvCell .r2 c) ∗ snd1 .cr c ∗ pts tr2M c fullShare.right (tr2C m c)) -∗ Q ⟨a1, k0_pay16 (tr2C m c) (wbC m c)⟩))
    ⊢ runs c (k0_part11 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v24 v30 (sc m c) v134) Q := by
  rw [k0_part11_eq_skeleton]; unfold k0_part11_skel
  simp only [semSignalWord, semWaitWord, smemLoad, smemLoadElt, Prog.lift, Prog.bind_op, Prog.bind_ret, Prog.pure_eq_ret]
  iintro ⟨#Hctx, HO, Hwb, Hout, Z1, Vr2, Rcr, Scr, Hk⟩
  iapply (wp_ld1 c zbM fullShare.right (zbC m c) (Finset.Subset.refl _)) $$ Z1; iintro Z1
  iapply (wp_ld c wbM fullShare (wbC m c) (wbC m c) (rd_wb _)) $$ Hwb; iintro Hwb
  iapply (wp_ld_any c oM fullShare f) $$ Hout; iintro %_ Hout
  iapply (wp_put c (p7 m c) f) $$ Hout; iintro Hout
  iapply (wp_landed m c .r2 [.cr, .cl] (by decide)) $$ [HO Vr2]
  · isplitr; · iexact Hctx
    isplitl [HO] <;> iassumption
  rw [rcv_r2]
  iintro ⟨HO, Zr2, T1⟩
  ihave H := (halves tr2M c (tr2C m c)) $$ T1
  icases H with ⟨T1l, T1⟩
  iapply (wp_xfer m c .cr [.cl] _ (dev18_eq c)) $$ [HO Scr Rcr T1l]
  · isplitr; · iexact Hctx
    isplitl [HO]; · iexact HO
    isplitl [Scr]; · iexact Scr
    isplitl [Rcr]; · iexact Rcr
    rw [snd_cr]; iexact T1l
  iintro ⟨HO, Scr⟩
  iapply (wp_ld c tr2M fullShare.right (tr2C m c) (tr2C m c) (rd_tr2 _)) $$ T1; iintro T1
  iapply (wp_ld c wbM fullShare (wbC m c) (wbC m c) (rd_wb _)) $$ Hwb; iintro Hwb
  iapply (runs_ret c)
  iapply Hk
  isplitl [HO]; · iexact HO
  isplitl [Hwb]; · iexact Hwb
  isplitl [Hout]; · iexact Hout
  isplitl [Z1]; · iexact Z1
  isplitl [Zr2]; · iexact Zr2
  isplitl [Scr]; · iexact Scr
  iexact T1

/-- Part 12: the opposite device's two pieces; its bottom half passed on. -/
theorem part12 (c : Dev nD) (v20 v28 v30 v134 v329 : BitVec 32) (f : Out F) {Q : BitVec 32 → sProp 𝕄} :
    iprop(ctx m
      ∗ owesE c (owedL c [.cl])
      ∗ pts wbM c fullShare (wbC m c)
      ∗ pts oM c fullShare f
      ∗ rcv0 .l2 c
      ∗ room .cl c
      ∗ snd0 .cl c
      ∗ (∀ a1, (owesE c (owedL c []) ∗ pts wbM c fullShare (wbC m c) ∗ pts oM c fullShare (put (p9 m c) (put (p8 m c) f)) ∗ zeroAt (rcvCell .l2 c) ∗ snd1 .cl c ∗ pts bl2M c fullShare.right (bl2C m c)) -∗ Q a1))
    ⊢ runs c (k0_part12 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v20 v28 v30 (sc m c) v134 v329 (k0_pay16 (tr2C m c) (wbC m c))) Q := by
  rw [k0_part12_eq_skeleton]; unfold k0_part12_skel
  simp only [semSignalWord, semWaitWord, smemLoad, smemLoadElt, Prog.lift, Prog.bind_op, Prog.bind_ret, Prog.pure_eq_ret]
  iintro ⟨#Hctx, HO, Hwb, Hout, Vl2, Rcl, Scl, Hk⟩
  iapply (wp_ld_any c oM fullShare f) $$ Hout; iintro %_ Hout
  iapply (wp_put c (p8 m c) f) $$ Hout; iintro Hout
  iapply (wp_landed m c .l2 [.cl] (by decide)) $$ [HO Vl2]
  · isplitr; · iexact Hctx
    isplitl [HO] <;> iassumption
  rw [rcv_l2]
  iintro ⟨HO, Zl2, T1⟩
  ihave H := (halves bl2M c (bl2C m c)) $$ T1
  icases H with ⟨T1l, T1⟩
  iapply (wp_xfer m c .cl [] _ (dev19_eq c)) $$ [HO Scl Rcl T1l]
  · isplitr; · iexact Hctx
    isplitl [HO]; · iexact HO
    isplitl [Scl]; · iexact Scl
    isplitl [Rcl]; · iexact Rcl
    rw [snd_cl]; iexact T1l
  iintro ⟨HO, Scl⟩
  iapply (wp_ld c bl2M fullShare.right (bl2C m c) (bl2C m c) (rd_bl2 _)) $$ T1; iintro T1
  iapply (wp_ld c wbM fullShare (wbC m c) (wbC m c) (rd_wb _)) $$ Hwb; iintro Hwb
  iapply (wp_ld_any c oM fullShare (put (p8 m c) f)) $$ Hout; iintro %_ Hout
  iapply (wp_put c (p9 m c) (put (p8 m c) f)) $$ Hout; iintro Hout
  iapply (runs_ret c)
  iapply Hk
  isplitl [HO]; · iexact HO
  isplitl [Hwb]; · iexact Hwb
  isplitl [Hout]; · iexact Hout
  isplitl [Zl2]; · iexact Zl2
  isplitl [Scl]; · iexact Scl
  iexact T1

/-- Part 13: the rows of the other plane's two neighbours land. -/
theorem part13 (c : Dev nD) (v20 v24 v28 v32 v364 : BitVec 32) {Q : (Σ' (v365 : BitVec 32) (v368 : BitVec 32) (v391 : BitVec 32), FVec F S192x4096 .bf16) → sProp 𝕄} :
    iprop(ctx m
      ∗ owesE c (owedL c [])
      ∗ rcv0 .bra c
      ∗ rcv0 .brb c
      ∗ rcv0 .bla c
      ∗ rcv0 .blb c
      ∗ (∀ a1 a2 a3, (owesE c (owedL c []) ∗ zeroAt (rcvCell .bra c) ∗ zeroAt (rcvCell .brb c) ∗ zeroAt (rcvCell .bla c) ∗ zeroAt (rcvCell .blb c) ∗ pts braM c fullShare (braC m c) ∗ pts brbM c fullShare (brbC m c) ∗ pts blaM c fullShare (blaC m c) ∗ pts blbM c fullShare (blbC m c)) -∗ Q ⟨a1, a2, a3, k0_pay19 (braC m c)⟩))
    ⊢ runs c (k0_part13 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 v20 v24 v28 v32 v364) Q := by
  rw [k0_part13_eq_skeleton]; unfold k0_part13_skel
  simp only [semSignalWord, semWaitWord, smemLoad, smemLoadElt, Prog.lift, Prog.bind_op, Prog.bind_ret, Prog.pure_eq_ret]
  iintro ⟨#Hctx, HO, Vbra, Vbrb, Vbla, Vblb, Hk⟩
  iapply (wp_landed m c .bra [] (by decide)) $$ [HO Vbra]
  · isplitr; · iexact Hctx
    isplitl [HO] <;> iassumption
  rw [rcv_bra]
  iintro ⟨HO, Zbra, T1⟩
  iapply (wp_landed m c .brb [] (by decide)) $$ [HO Vbrb]
  · isplitr; · iexact Hctx
    isplitl [HO] <;> iassumption
  rw [rcv_brb]
  iintro ⟨HO, Zbrb, T2⟩
  iapply (wp_landed m c .bla [] (by decide)) $$ [HO Vbla]
  · isplitr; · iexact Hctx
    isplitl [HO] <;> iassumption
  rw [rcv_bla]
  iintro ⟨HO, Zbla, T3⟩
  iapply (wp_landed m c .blb [] (by decide)) $$ [HO Vblb]
  · isplitr; · iexact Hctx
    isplitl [HO] <;> iassumption
  rw [rcv_blb]
  iintro ⟨HO, Zblb, T4⟩
  iapply (wp_ld c braM fullShare (braC m c) (braC m c) (rd_bra _)) $$ T1; iintro T1
  iapply (runs_ret c)
  iapply Hk
  isplitl [HO]; · iexact HO
  isplitl [Zbra]; · iexact Zbra
  isplitl [Zbrb]; · iexact Zbrb
  isplitl [Zbla]; · iexact Zbla
  isplitl [Zblb]; · iexact Zblb
  isplitl [T1]; · iexact T1
  isplitl [T2]; · iexact T2
  isplitl [T3]; · iexact T3
  iexact T4

/-- Part 14: three of their pieces. -/
theorem part14 (c : Dev nD) (v365 v368 v391 : BitVec 32) (f : Out F) {Q : (Σ' (v424 : Vec F S192x4096 .fp8e4m3), BitVec 32) → sProp 𝕄} :
    iprop(ctx m
      ∗ pts wbM c fullShare (wbC m c)
      ∗ pts oM c fullShare f
      ∗ pts brbM c fullShare (brbC m c)
      ∗ pts blaM c fullShare (blaC m c)
      ∗ pts blbM c fullShare (blbC m c)
      ∗ (∀ a1, (pts wbM c fullShare (wbC m c) ∗ pts oM c fullShare (put (p12 m c) (put (p11 m c) (put (p10 m c) f))) ∗ pts brbM c fullShare (brbC m c) ∗ pts blaM c fullShare (blaC m c) ∗ pts blbM c fullShare (blbC m c)) -∗ Q ⟨blbC m c, a1⟩))
    ⊢ runs c (k0_part14 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c (sc m c) v365 v368 v391 (k0_pay19 (braC m c))) Q := by
  rw [k0_part14_eq_skeleton]; unfold k0_part14_skel
  simp only [semSignalWord, semWaitWord, smemLoad, smemLoadElt, Prog.lift, Prog.bind_op, Prog.bind_ret, Prog.pure_eq_ret]
  iintro ⟨#Hctx, Hwb, Hout, T2, T3, T4, Hk⟩
  iapply (wp_ld c wbM fullShare (wbC m c) (wbC m c) (rd_wb _)) $$ Hwb; iintro Hwb
  iapply (wp_ld_any c oM fullShare f) $$ Hout; iintro %_ Hout
  iapply (wp_put c (p10 m c) f) $$ Hout; iintro Hout
  iapply (wp_ld c brbM fullShare (brbC m c) (brbC m c) (rd_brb _)) $$ T2; iintro T2
  iapply (wp_ld c wbM fullShare (wbC m c) (wbC m c) (rd_wb _)) $$ Hwb; iintro Hwb
  iapply (wp_ld_any c oM fullShare (put (p10 m c) f)) $$ Hout; iintro %_ Hout
  iapply (wp_put c (p11 m c) (put (p10 m c) f)) $$ Hout; iintro Hout
  iapply (wp_ld c blaM fullShare (blaC m c) (blaC m c) (rd_bla _)) $$ T3; iintro T3
  iapply (wp_ld c wbM fullShare (wbC m c) (wbC m c) (rd_wb _)) $$ Hwb; iintro Hwb
  iapply (wp_ld_any c oM fullShare (put (p11 m c) (put (p10 m c) f))) $$ Hout; iintro %_ Hout
  iapply (wp_put c (p12 m c) (put (p11 m c) (put (p10 m c) f))) $$ Hout; iintro Hout
  iapply (wp_ld c blbM fullShare (blbC m c) (blbC m c) (rd_blb _)) $$ T4; iintro T4
  iapply (runs_ret c)
  iapply Hk
  isplitl [Hwb]; · iexact Hwb
  isplitl [Hout]; · iexact Hout
  isplitl [T2]; · iexact T2
  isplitl [T3]; · iexact T3
  iexact T4

end Cert.AllGather
-- ==== Proof.PartsD.lean ====
/-
# The body's parts, last quarter

Parts 15 to 19: the last pieces, and the waits for the transfers the device itself started.
-/
module

public import proofs.«01_k».proof.Proof.PartsA

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Part 15: the first rows of the other plane's right neighbour's bottom half; the staged rows land. -/
theorem part15 (c : Dev nD) (v30 v365 v368 v5 : BitVec 32) (f : Out F) {Q : (Σ' (v455 : Vec F S64x4096 .fp8e4m3), BitVec 32) → sProp 𝕄} :
    iprop(ctx m
      ∗ owesE c (owedL c [])
      ∗ pts wbM c fullShare (wbC m c)
      ∗ pts oM c fullShare f
      ∗ rcv0 .c2r c
      ∗ rcv0 .c2l c
      ∗ (∀ a1, (owesE c (owedL c []) ∗ pts wbM c fullShare (wbC m c) ∗ pts oM c fullShare (put (p14 m c) (put (p13 m c) f)) ∗ zeroAt (rcvCell .c2r c) ∗ zeroAt (rcvCell .c2l c) ∗ pts c2rM c fullShare (c2rC m c) ∗ pts c2lM c fullShare (c2lC m c)) -∗ Q ⟨c2lC m c, a1⟩))
    ⊢ runs c (k0_part15 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v30 (sc m c) v365 v368 (blbC m c) v5) Q := by
  rw [k0_part15_eq_skeleton]; unfold k0_part15_skel
  simp only [semSignalWord, semWaitWord, smemLoad, smemLoadElt, Prog.lift, Prog.bind_op, Prog.bind_ret, Prog.pure_eq_ret]
  iintro ⟨#Hctx, HO, Hwb, Hout, Vc2r, Vc2l, Hk⟩
  iapply (wp_ld c wbM fullShare (wbC m c) (wbC m c) (rd_wb _)) $$ Hwb; iintro Hwb
  iapply (wp_ld_any c oM fullShare f) $$ Hout; iintro %_ Hout
  iapply (wp_put c (p13 m c) f) $$ Hout; iintro Hout
  iapply (wp_landed m c .c2r [] (by decide)) $$ [HO Vc2r]
  · isplitr; · iexact Hctx
    isplitl [HO] <;> iassumption
  rw [rcv_c2r]
  iintro ⟨HO, Zc2r, T1⟩
  iapply (wp_landed m c .c2l [] (by decide)) $$ [HO Vc2l]
  · isplitr; · iexact Hctx
    isplitl [HO] <;> iassumption
  rw [rcv_c2l]
  iintro ⟨HO, Zc2l, T2⟩
  iapply (wp_ld c c2rM fullShare (c2rC m c) (c2rC m c) (rd_c2r _)) $$ T1; iintro T1
  iapply (wp_ld c wbM fullShare (wbC m c) (wbC m c) (rd_wb _)) $$ Hwb; iintro Hwb
  iapply (wp_ld_any c oM fullShare (put (p13 m c) f)) $$ Hout; iintro %_ Hout
  iapply (wp_put c (p14 m c) (put (p13 m c) f)) $$ Hout; iintro Hout
  iapply (wp_ld c c2lM fullShare (c2lC m c) (c2lC m c) (rd_c2l _)) $$ T2; iintro T2
  iapply (runs_ret c)
  iapply Hk
  isplitl [HO]; · iexact HO
  isplitl [Hwb]; · iexact Hwb
  isplitl [Hout]; · iexact Hout
  isplitl [Zc2r]; · iexact Zc2r
  isplitl [Zc2l]; · iexact Zc2l
  isplitl [T1]; · iexact T1
  iexact T2

/-- Part 16: the last staged piece; the other plane's opposite device's top half lands and is multiplied. -/
theorem part16 (c : Dev nD) (v20 v30 v32 v368 v5 : BitVec 32) (f : Out F) {Q : (Σ' (v470 : BitVec 32), FVec F S256x256 .f32) → sProp 𝕄} :
    iprop(ctx m
      ∗ owesE c (owedL c [])
      ∗ pts wbM c fullShare (wbC m c)
      ∗ pts oM c fullShare f
      ∗ rcv0 .cr c
      ∗ (∀ a1, (owesE c (owedL c []) ∗ pts wbM c fullShare (wbC m c) ∗ pts oM c fullShare (put (p15 m c) f) ∗ zeroAt (rcvCell .cr c) ∗ pts (sl0 czM) c fullShare (czC m c)) -∗ Q ⟨a1, k0_pay26 (sc m c) (c0V m c) (wbC m c)⟩))
    ⊢ runs c (k0_part16 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v20 v30 v32 (sc m c) v368 (c2lC m c) v5) Q := by
  rw [k0_part16_eq_skeleton]; unfold k0_part16_skel
  simp only [semSignalWord, semWaitWord, smemLoad, smemLoadElt, Prog.lift, Prog.bind_op, Prog.bind_ret, Prog.pure_eq_ret]
  iintro ⟨#Hctx, HO, Hwb, Hout, Vcr, Hk⟩
  iapply (wp_ld c wbM fullShare (wbC m c) (wbC m c) (rd_wb _)) $$ Hwb; iintro Hwb
  iapply (wp_ld_any c oM fullShare f) $$ Hout; iintro %_ Hout
  iapply (wp_put c (p15 m c) f) $$ Hout; iintro Hout
  iapply (wp_landed m c .cr [] (by decide)) $$ [HO Vcr]
  · isplitr; · iexact Hctx
    isplitl [HO] <;> iassumption
  rw [rcv_cr]
  iintro ⟨HO, Zcr, T1⟩
  iapply (wp_ld0 c czM fullShare (czC m c) (Finset.Subset.refl _)) $$ T1; iintro T1
  iapply (wp_ld c wbM fullShare (wbC m c) (wbC m c) (rd_wb _)) $$ Hwb; iintro Hwb
  iapply (wp_ld_any c oM fullShare (put (p15 m c) f)) $$ Hout; iintro %_ Hout
  iapply (runs_ret c)
  iapply Hk
  isplitl [HO]; · iexact HO
  isplitl [Hwb]; · iexact Hwb
  isplitl [Hout]; · iexact Hout
  isplitl [Zcr]; · iexact Zcr
  iexact T1

/-- Part 17: the last two pieces; the first transfer has left. -/
theorem part17 (c : Dev nD) (v30 v470 : BitVec 32) (f : Out F) {Q : PUnit → sProp 𝕄} :
    iprop(ctx m
      ∗ owesE c (owedL c [])
      ∗ pts wbM c fullShare (wbC m c)
      ∗ pts oM c fullShare f
      ∗ rcv0 .cl c
      ∗ snd1 .z0 c
      ∗ ((owesE c (owedL c []) ∗ pts wbM c fullShare (wbC m c) ∗ pts oM c fullShare (put (p17 m c) (put (p16 m c) f)) ∗ zeroAt (rcvCell .cl c) ∗ pts (sl1 czM) c fullShare (czC m c) ∗ zeroAt (sndCell .z0 c) ∗ pts (sl0 xcM) c fullShare.left (xcC m c)) -∗ Q ⟨⟩))
    ⊢ runs c (k0_part17 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 c v30 (sc m c) v470 (k0_pay26 (sc m c) (c0V m c) (wbC m c))) Q := by
  rw [k0_part17_eq_skeleton]; unfold k0_part17_skel
  simp only [semSignalWord, semWaitWord, smemLoad, smemLoadElt, Prog.lift, Prog.bind_op, Prog.bind_ret, Prog.pure_eq_ret]
  iintro ⟨#Hctx, HO, Hwb, Hout, Vcl, Sz0, Hk⟩
  iapply (wp_put c (p16 m c) f) $$ Hout; iintro Hout
  iapply (wp_landed m c .cl [] (by decide)) $$ [HO Vcl]
  · isplitr; · iexact Hctx
    isplitl [HO] <;> iassumption
  rw [rcv_cl]
  iintro ⟨HO, Zcl, T1⟩
  iapply (wp_ld1 c czM fullShare (czC m c) (Finset.Subset.refl _)) $$ T1; iintro T1
  iapply (wp_ld c wbM fullShare (wbC m c) (wbC m c) (rd_wb _)) $$ Hwb; iintro Hwb
  iapply (wp_ld_any c oM fullShare (put (p16 m c) f)) $$ Hout; iintro %_ Hout
  iapply (wp_put c (p17 m c) (put (p16 m c) f)) $$ Hout; iintro Hout
  iapply (wp_left m c .z0) $$ [HO Sz0]
  · isplitr; · iexact Hctx
    isplitl [HO] <;> iassumption
  rw [snd_z0]
  iintro ⟨HO, Yz0, Xz0⟩
  iapply (runs_ret c)
  iapply Hk
  isplitl [HO]; · iexact HO
  isplitl [Hwb]; · iexact Hwb
  isplitl [Hout]; · iexact Hout
  isplitl [Zcl]; · iexact Zcl
  isplitl [T1]; · iexact T1
  isplitl [Yz0]; · iexact Yz0
  iexact Xz0

/-- Part 18: transfers of the device have left. -/
theorem part18 (c : Dev nD) {Q : PUnit → sProp 𝕄} :
    iprop(ctx m
      ∗ owesE c (owedL c [])
      ∗ snd1 .r0 c
      ∗ snd1 .l0 c
      ∗ snd1 .z1 c
      ∗ snd1 .r1 c
      ∗ snd1 .l1 c
      ∗ ((owesE c (owedL c []) ∗ zeroAt (sndCell .r0 c) ∗ zeroAt (sndCell .l0 c) ∗ zeroAt (sndCell .z1 c) ∗ zeroAt (sndCell .r1 c) ∗ zeroAt (sndCell .l1 c) ∗ pts (sl0 xcM) c fullShare.right.left (xcC m c) ∗ pts (sl0 xcM) c fullShare.right.right (xcC m c) ∗ pts (sl1 xcM) c fullShare.left (xcC m c) ∗ pts (sl1 xcM) c fullShare.right.left (xcC m c) ∗ pts (sl1 xcM) c fullShare.right.right (xcC m c)) -∗ Q ⟨⟩))
    ⊢ runs c (k0_part18 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 ) Q := by
  rw [k0_part18_eq_skeleton]; unfold k0_part18_skel
  simp only [semSignalWord, semWaitWord, smemLoad, smemLoadElt, Prog.lift, Prog.bind_op, Prog.bind_ret, Prog.pure_eq_ret]
  iintro ⟨#Hctx, HO, Sr0, Sl0, Sz1, Sr1, Sl1, Hk⟩
  iapply (wp_left m c .r0) $$ [HO Sr0]
  · isplitr; · iexact Hctx
    isplitl [HO] <;> iassumption
  rw [snd_r0]
  iintro ⟨HO, Yr0, Xr0⟩
  iapply (wp_left m c .l0) $$ [HO Sl0]
  · isplitr; · iexact Hctx
    isplitl [HO] <;> iassumption
  rw [snd_l0]
  iintro ⟨HO, Yl0, Xl0⟩
  iapply (wp_left m c .z1) $$ [HO Sz1]
  · isplitr; · iexact Hctx
    isplitl [HO] <;> iassumption
  rw [snd_z1]
  iintro ⟨HO, Yz1, Xz1⟩
  iapply (wp_left m c .r1) $$ [HO Sr1]
  · isplitr; · iexact Hctx
    isplitl [HO] <;> iassumption
  rw [snd_r1]
  iintro ⟨HO, Yr1, Xr1⟩
  iapply (wp_left m c .l1) $$ [HO Sl1]
  · isplitr; · iexact Hctx
    isplitl [HO] <;> iassumption
  rw [snd_l1]
  iintro ⟨HO, Yl1, Xl1⟩
  iapply (runs_ret c)
  iapply Hk
  isplitl [HO]; · iexact HO
  isplitl [Yr0]; · iexact Yr0
  isplitl [Yl0]; · iexact Yl0
  isplitl [Yz1]; · iexact Yz1
  isplitl [Yr1]; · iexact Yr1
  isplitl [Yl1]; · iexact Yl1
  isplitl [Xr0]; · iexact Xr0
  isplitl [Xl0]; · iexact Xl0
  isplitl [Xz1]; · iexact Xz1
  isplitl [Xr1]; · iexact Xr1
  iexact Xl1

/-- Part 19: transfers of the device have left. -/
theorem part19 (c : Dev nD) {Q : PUnit → sProp 𝕄} :
    iprop(ctx m
      ∗ owesE c (owedL c [])
      ∗ snd1 .r2 c
      ∗ snd1 .l2 c
      ∗ snd1 .bra c
      ∗ snd1 .brb c
      ∗ snd1 .bla c
      ∗ snd1 .blb c
      ∗ snd1 .c2r c
      ∗ snd1 .c2l c
      ∗ ((owesE c (owedL c []) ∗ zeroAt (sndCell .r2 c) ∗ zeroAt (sndCell .l2 c) ∗ zeroAt (sndCell .bra c) ∗ zeroAt (sndCell .brb c) ∗ zeroAt (sndCell .bla c) ∗ zeroAt (sndCell .blb c) ∗ zeroAt (sndCell .c2r c) ∗ zeroAt (sndCell .c2l c) ∗ pts tr1M c fullShare.left (tr1C m c) ∗ pts bl1M c fullShare.left (bl1C m c) ∗ pts sbrM c fullShare (sbrC m c) ∗ pts (sl1 zbM) c fullShare.left (zbC m c) ∗ pts (sl0 zbM) c fullShare.left (zbC m c) ∗ pts sblM c fullShare (sblC m c) ∗ pts scrM c fullShare (scrC m c) ∗ pts sclM c fullShare (sclC m c)) -∗ Q ⟨⟩))
    ⊢ runs c (k0_part19 xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31 ) Q := by
  rw [k0_part19_eq_skeleton]; unfold k0_part19_skel
  simp only [semSignalWord, semWaitWord, smemLoad, smemLoadElt, Prog.lift, Prog.bind_op, Prog.bind_ret, Prog.pure_eq_ret]
  iintro ⟨#Hctx, HO, Sr2, Sl2, Sbra, Sbrb, Sbla, Sblb, Sc2r, Sc2l, Hk⟩
  iapply (wp_left m c .r2) $$ [HO Sr2]
  · isplitr; · iexact Hctx
    isplitl [HO] <;> iassumption
  rw [snd_r2]
  iintro ⟨HO, Yr2, Xr2⟩
  iapply (wp_left m c .l2) $$ [HO Sl2]
  · isplitr; · iexact Hctx
    isplitl [HO] <;> iassumption
  rw [snd_l2]
  iintro ⟨HO, Yl2, Xl2⟩
  iapply (wp_left m c .bra) $$ [HO Sbra]
  · isplitr; · iexact Hctx
    isplitl [HO] <;> iassumption
  rw [snd_bra]
  iintro ⟨HO, Ybra, Xbra⟩
  iapply (wp_left m c .brb) $$ [HO Sbrb]
  · isplitr; · iexact Hctx
    isplitl [HO] <;> iassumption
  rw [snd_brb]
  iintro ⟨HO, Ybrb, Xbrb⟩
  iapply (wp_left m c .bla) $$ [HO Sbla]
  · isplitr; · iexact Hctx
    isplitl [HO] <;> iassumption
  rw [snd_bla]
  iintro ⟨HO, Ybla, Xbla⟩
  iapply (wp_left m c .blb) $$ [HO Sblb]
  · isplitr; · iexact Hctx
    isplitl [HO] <;> iassumption
  rw [snd_blb]
  iintro ⟨HO, Yblb, Xblb⟩
  iapply (wp_left m c .c2r) $$ [HO Sc2r]
  · isplitr; · iexact Hctx
    isplitl [HO] <;> iassumption
  rw [snd_c2r]
  iintro ⟨HO, Yc2r, Xc2r⟩
  iapply (wp_left m c .c2l) $$ [HO Sc2l]
  · isplitr; · iexact Hctx
    isplitl [HO] <;> iassumption
  rw [snd_c2l]
  iintro ⟨HO, Yc2l, Xc2l⟩
  iapply (runs_ret c)
  iapply Hk
  isplitl [HO]; · iexact HO
  isplitl [Yr2]; · iexact Yr2
  isplitl [Yl2]; · iexact Yl2
  isplitl [Ybra]; · iexact Ybra
  isplitl [Ybrb]; · iexact Ybrb
  isplitl [Ybla]; · iexact Ybla
  isplitl [Yblb]; · iexact Yblb
  isplitl [Yc2r]; · iexact Yc2r
  isplitl [Yc2l]; · iexact Yc2l
  isplitl [Xr2]; · iexact Xr2
  isplitl [Xl2]; · iexact Xl2
  isplitl [Xbra]; · iexact Xbra
  isplitl [Xbrb]; · iexact Xbrb
  isplitl [Xbla]; · iexact Xbla
  isplitl [Xblb]; · iexact Xblb
  isplitl [Xc2r]; · iexact Xc2r
  iexact Xc2l

end Cert.AllGather
-- ==== Proof.State.lean ====
/-
# What a device starts and ends with
-/
module

public import proofs.«01_k».proof.Proof.Pieces

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The twenty scratch buffers of device `c`, at contents nobody has named. -/
def scratch (c : Dev nD) : sProp 𝕄 :=
  iprop(free xcM c ∗ free wbM c ∗ free zbM c ∗ free tr1M c ∗ free br1M c ∗ free tr2M c ∗ free tl1M c ∗ free bl1M c ∗ free bl2M c ∗ free braM c ∗ free brbM c ∗ free blaM c ∗ free blbM c ∗ free czM c ∗ free c2rM c ∗ free c2lM c ∗ free sbrM c ∗ free sblM c ∗ free scrM c ∗ free sclM c)

/-- The tokens device `c` pays its three barrier signals with. -/
def barToks (c : Dev nD) : sProp 𝕄 :=
  iprop(dutyTok ER (barCell (lft c)) 0 0 ∗ dutyTok ER (barCell (rgt c)) 0 1 ∗ dutyTok ER (barCell (zee c)) 0 2)

/-- What the launch gives device `c`: the knowledge, its barrier and the three tokens it pays with there, the two ends of every transfer. -/
def start (c : Dev nD) : sProp 𝕄 :=
  iprop(ctx m ∗ bar0 c ∗ barToks c ∗ (bigSep Finset.univ fun k : Xf => snd0 k c) ∗ (bigSep Finset.univ fun k : Xf => rcv0 k c))

/-- What its body starts with: that, and its scratch. -/
def Φ₀ (c : Dev nD) : sProp 𝕄 := iprop(start m c ∗ scratch c)

/-- What it ends with: every semaphore at zero, and its scratch. -/
def Φ₁ (c : Dev nD) : sProp 𝕄 :=
  iprop((zeroAt (barCell c) ∗ (bigSep Finset.univ fun k : Xf => zeroAt (sndCell k c)) ∗ (bigSep Finset.univ fun k : Xf => zeroAt (rcvCell k c))) ∗ scratch c)

omit [FloatOps F] in
/-- One of something for each transfer. -/
theorem bigSep_Xf (Φ : Xf → sProp 𝕄) : bigSep Finset.univ Φ
    = iprop(Φ .z0 ∗ Φ .z1 ∗ Φ .r0 ∗ Φ .r1 ∗ Φ .r2 ∗ Φ .l0 ∗ Φ .l1 ∗ Φ .l2 ∗ Φ .bra ∗ Φ .brb ∗ Φ .bla ∗ Φ .blb ∗ Φ .cr ∗ Φ .cl ∗ Φ .c2r ∗ Φ .c2l) := by
  rw [bigSep_univ_eq_bigSepL allXf (by decide) (by decide)]
  unfold allXf
  simp only [bigSepL_cons_cons, bigSepL_singleton]
  rfl

end Cert.AllGather
-- ==== Proof.Body.lean ====
/-
# The body

The body run by its parts, from what a device starts it with to what the device ends it with.
-/
module

public import proofs.«01_k».proof.Proof.PartsB
public import proofs.«01_k».proof.Proof.PartsC
public import proofs.«01_k».proof.Proof.PartsD
public import proofs.«01_k».proof.Proof.State

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The buffers the barrier signals hand over -/

section Give
variable (c : Dev nD)
omit [FloatOps F]
theorem give0 : (iprop(free tr1M c ∗ free br1M c ∗ free tr2M c ∗ free braM c ∗ free brbM c) : sProp 𝕄) ⊢ barPay 0 (lft c) := by
  unfold barPay
  dsimp only
  rw [show (room .r0 (lft c) : sProp 𝕄) = free tr1M c from room_org .r0 c, show (room .r1 (lft c) : sProp 𝕄) = free br1M c from room_org .r1 c, show (room .r2 (lft c) : sProp 𝕄) = free tr2M c from room_org .r2 c, show (room .bra (lft c) : sProp 𝕄) = free braM c from room_org .bra c, show (room .brb (lft c) : sProp 𝕄) = free brbM c from room_org .brb c]
theorem give1 : (iprop(free tl1M c ∗ free bl1M c ∗ free bl2M c ∗ free blaM c ∗ free blbM c) : sProp 𝕄) ⊢ barPay 1 (rgt c) := by
  unfold barPay
  dsimp only
  rw [show (room .l0 (rgt c) : sProp 𝕄) = free tl1M c from room_org .l0 c, show (room .l1 (rgt c) : sProp 𝕄) = free bl1M c from room_org .l1 c, show (room .l2 (rgt c) : sProp 𝕄) = free bl2M c from room_org .l2 c, show (room .bla (rgt c) : sProp 𝕄) = free blaM c from room_org .bla c, show (room .blb (rgt c) : sProp 𝕄) = free blbM c from room_org .blb c]
theorem give2 : (iprop(free (sl0 zbM) c ∗ free (sl1 zbM) c ∗ free (sl0 czM) c ∗ free (sl1 czM) c ∗ free c2rM c ∗ free c2lM c) : sProp 𝕄) ⊢ barPay 2 (zee c) := by
  unfold barPay
  dsimp only
  rw [show (room .z0 (zee c) : sProp 𝕄) = free (sl0 zbM) c from room_org .z0 c, show (room .z1 (zee c) : sProp 𝕄) = free (sl1 zbM) c from room_org .z1 c, show (room .cr (zee c) : sProp 𝕄) = free (sl0 czM) c from room_org .cr c, show (room .cl (zee c) : sProp 𝕄) = free (sl1 czM) c from room_org .cl c, show (room .c2r (zee c) : sProp 𝕄) = free c2rM c from room_org .c2r c, show (room .c2l (zee c) : sProp 𝕄) = free c2lM c from room_org .c2l c]
end Give

section Back
variable (c : Dev nD)

omit [FloatOps F] in
/-- Two halves of a buffer are the buffer. -/
theorem back_half {sp : Space} {s : Shape} {e : EltTy} (M : Memref sig .tc sp s e) (c : Dev nD) (f : Buf (Elt F) (M.view.loc (c : Thread nD τ))) :
    (iprop(pts M c fullShare.left f ∗ pts M c fullShare.right f) : sProp 𝕄) ⊢ free M c :=
  (unhalve M c f).trans (free_of M c f)

/-- The shard's copy, whole again. -/
theorem back_xc : (iprop(pts (sl0 xcM) c fullShare.left (xcC m c) ∗ pts (sl0 xcM) c fullShare.right.left (xcC m c) ∗ pts (sl0 xcM) c fullShare.right.right (xcC m c) ∗ pts (sl1 xcM) c fullShare.left (xcC m c) ∗ pts (sl1 xcM) c fullShare.right.left (xcC m c) ∗ pts (sl1 xcM) c fullShare.right.right (xcC m c)) : sProp 𝕄) ⊢ free xcM c := by
  iintro ⟨A0, B0, C0, A1, B1, C1⟩
  iapply (free_unslot xcM c)
  isplitl [A0 B0 C0]
  · iapply ((unthird (sl0 xcM) c (xcC m c)).trans (free_of (sl0 xcM) c (xcC m c)))
    isplitl [A0]; · iexact A0
    isplitl [B0]; · iexact B0
    iexact C0
  iapply ((unthird (sl1 xcM) c (xcC m c)).trans (free_of (sl1 xcM) c (xcC m c)))
  isplitl [A1]; · iexact A1
  isplitl [B1]; · iexact B1
  iexact C1

/-- The shard from across, whole again. -/
theorem back_zb : (iprop(pts (sl0 zbM) c fullShare.left (zbC m c) ∗ pts (sl0 zbM) c fullShare.right (zbC m c) ∗ pts (sl1 zbM) c fullShare.left (zbC m c) ∗ pts (sl1 zbM) c fullShare.right (zbC m c)) : sProp 𝕄) ⊢ free zbM c := by
  iintro ⟨A0, B0, A1, B1⟩
  iapply (free_unslot zbM c)
  isplitl [A0 B0]
  · iapply (back_half (sl0 zbM) c (zbC m c))
    isplitl [A0]; · iexact A0
    iexact B0
  iapply (back_half (sl1 zbM) c (zbC m c))
  isplitl [A1]; · iexact A1
  iexact B1

/-- The pieces received last, in one buffer. -/
theorem back_cz : (iprop(pts (sl0 czM) c fullShare (czC m c) ∗ pts (sl1 czM) c fullShare (czC m c)) : sProp 𝕄) ⊢ free czM c := by
  iintro ⟨A0, A1⟩
  iapply (free_unslot czM c)
  isplitl [A0]
  · iapply (free_of (sl0 czM) c (czC m c))
    iexact A0
  iapply (free_of (sl1 czM) c (czC m c))
  iexact A1

end Back

section Body

/-- A program in two parts. -/
theorem runs_bind {α β : Type} (c : Dev nD) {p : Prog (TpuEff nD τ sig (Elt F) Λ₀ .tc) α} {k : α → Prog (TpuEff nD τ sig (Elt F) Λ₀ .tc) β} {Q : β → sProp 𝕄} :
    runs c p (fun a => runs c (k a) Q) ⊢ runs c (p >>= k) Q := Entails.of_eq (wp_bind _ _ _ _ _ _).symm

set_option maxHeartbeats 20000000 in
/-- The body, from what device `c` starts with to what it ends with: the output holds all the pieces. -/
theorem sound_body (c : Dev nD) (f : Out F) {Q : PUnit → sProp 𝕄} :
    iprop(Φ₀ m c ∗ owesE c (O₀ c) ∗ pts xM c fullShare (xstg m c) ∗ pts wM c fullShare (wstg m c) ∗ pts sxM c fullShare (sxstg m c)
      ∗ pts swM c fullShare (swstg m c) ∗ pts oM c fullShare f
      ∗ ((Φ₁ c ∗ owesE c (owedL c []) ∗ pts xM c fullShare (xstg m c) ∗ pts wM c fullShare (wstg m c) ∗ pts sxM c fullShare (sxstg m c)
        ∗ pts swM c fullShare (swstg m c) ∗ pts oM c fullShare (outs m c f)) -∗ Q ⟨⟩))
    ⊢ runs c (cc0_body xM (Memref.isWhole_whole _) wM (Memref.isWhole_whole _) sxM (Memref.isWhole_whole _) swM (Memref.isWhole_whole _) oM (Memref.isWhole_whole _) xcM (Memref.isWhole_whole _) wbM (Memref.isWhole_whole _) zbM (Memref.isWhole_whole _) tr1M (Memref.isWhole_whole _) br1M (Memref.isWhole_whole _) tr2M (Memref.isWhole_whole _) tl1M (Memref.isWhole_whole _) bl1M (Memref.isWhole_whole _) bl2M (Memref.isWhole_whole _) braM (Memref.isWhole_whole _) brbM (Memref.isWhole_whole _) blaM (Memref.isWhole_whole _) blbM (Memref.isWhole_whole _) czM (Memref.isWhole_whole _) c2rM (Memref.isWhole_whole _) c2lM (Memref.isWhole_whole _) sbrM (Memref.isWhole_whole _) sblM (Memref.isWhole_whole _) scrM (Memref.isWhole_whole _) sclM (Memref.isWhole_whole _) cc0_scratch20 cc0_scratch21 cc0_scratch22 cc0_scratch23 cc0_scratch24 cc0_scratch25 cc0_scratch26 cc0_scratch27 cc0_scratch28 cc0_scratch29 cc0_scratch30 cc0_scratch31) Q := by
  rw [cc0_body_eq_skeleton]; unfold cc0_body_skel Φ₀ start barToks scratch
  rw [bigSep_Xf, bigSep_Xf]
  iintro ⟨⟨⟨#Hctx, Hbar, ⟨T0, T1, T2⟩, ⟨Sz0, Sz1, Sr0, Sr1, Sr2, Sl0, Sl1, Sl2, Sbra, Sbrb, Sbla, Sblb, Scr, Scl, Sc2r, Sc2l⟩, ⟨Vz0, Vz1, Vr0, Vr1, Vr2, Vl0, Vl1, Vl2, Vbra, Vbrb, Vbla, Vblb, Vcr, Vcl, Vc2r, Vc2l⟩⟩, Mxc, Mwb, Mzb, Mtr1, Mbr1, Mtr2, Mtl1, Mbl1, Mbl2, Mbra, Mbrb, Mbla, Mblb, Mcz, Mc2r, Mc2l, Msbr, Msbl, Mscr, Mscl⟩, HO, Hx, Hw, Hsx, Hsw, Hout, Hk⟩
  ihave H := (free_slots zbM c) $$ Mzb
  icases H with ⟨Mzb0, Mzb1⟩
  ihave H := (free_slots czM c) $$ Mcz
  icases H with ⟨Mcz0, Mcz1⟩
  ihave H := (free_slots xcM c) $$ Mxc
  icases H with ⟨Mxc0, Mxc1⟩
  ihave B0 := (give0 c) $$ [Mtr1 Mbr1 Mtr2 Mbra Mbrb]
  · isplitl [Mtr1]; · iexact Mtr1
    isplitl [Mbr1]; · iexact Mbr1
    isplitl [Mtr2]; · iexact Mtr2
    isplitl [Mbra]; · iexact Mbra
    iexact Mbrb
  ihave B1 := (give1 c) $$ [Mtl1 Mbl1 Mbl2 Mbla Mblb]
  · isplitl [Mtl1]; · iexact Mtl1
    isplitl [Mbl1]; · iexact Mbl1
    isplitl [Mbl2]; · iexact Mbl2
    isplitl [Mbla]; · iexact Mbla
    iexact Mblb
  ihave B2 := (give2 c) $$ [Mzb0 Mzb1 Mcz0 Mcz1 Mc2r Mc2l]
  · isplitl [Mzb0]; · iexact Mzb0
    isplitl [Mzb1]; · iexact Mzb1
    isplitl [Mcz0]; · iexact Mcz0
    isplitl [Mcz1]; · iexact Mcz1
    isplitl [Mc2r]; · iexact Mc2r
    iexact Mc2l
  iapply (runs_bind c)
  iapply (part1 c)
  iintro %a1 %a2 %a3 %a4 %a5 %a6 %a7
  try dsimp only
  iapply (runs_bind c)
  iapply (part2 m c _ _)
  isplitr; · iexact Hctx
  isplitl [HO]; · iexact HO
  isplitl [T0]; · iexact T0
  isplitl [T1]; · iexact T1
  isplitl [T2]; · iexact T2
  isplitl [B0]; · iexact B0
  isplitl [B1]; · iexact B1
  isplitl [B2]; · iexact B2
  isplitl [Hbar]; · iexact Hbar
  isplitl [Hsx]; · iexact Hsx
  isplitl [Hsw]; · iexact Hsw
  isplitl [Hx]; · iexact Hx
  isplitl [Mxc0]; · iexact Mxc0
  isplitl [Sz0]; · iexact Sz0
  iintro ⟨HO, Hzb, P0, P1, P2, Hsx, Hsw, Hx, X0r, X0l, Sz0⟩
  icases P0 with ⟨Rr0, Rr1, Rr2, Rbra, Rbrb⟩
  icases P1 with ⟨Rl0, Rl1, Rl2, Rbla, Rblb⟩
  icases P2 with ⟨Rz1, Rcr, Rcl, Rc2r, Rc2l⟩
  try dsimp only
  iapply (runs_bind c)
  iapply (part3 m c _ _)
  isplitr; · iexact Hctx
  isplitl [HO]; · iexact HO
  isplitl [Rr0]; · iexact Rr0
  isplitl [Rl0]; · iexact Rl0
  isplitl [Rz1]; · iexact Rz1
  isplitl [X0r]; · iexact X0r
  isplitl [X0l]; · iexact X0l
  isplitl [Hx]; · iexact Hx
  isplitl [Mxc1]; · iexact Mxc1
  isplitl [Sr0]; · iexact Sr0
  isplitl [Sl0]; · iexact Sl0
  isplitl [Sz1]; · iexact Sz1
  iintro ⟨HO, Hx, X1r, X1l, Sr0, Sl0, Sz1⟩
  try dsimp only
  iapply (runs_bind c)
  iapply (part4 m c _ _ _ _)
  isplitr; · iexact Hctx
  isplitl [HO]; · iexact HO
  isplitl [Rr1]; · iexact Rr1
  isplitl [Rl1]; · iexact Rl1
  isplitl [X1r]; · iexact X1r
  isplitl [X1l]; · iexact X1l
  isplitl [Hx]; · iexact Hx
  isplitl [Hw]; · iexact Hw
  isplitl [Mwb]; · iexact Mwb
  isplitl [Hout]; · iexact Hout
  isplitl [Sr1]; · iexact Sr1
  isplitl [Sl1]; · iexact Sl1
  iintro ⟨HO, Hx, Hw, Hwb, Hout, Sr1, Sl1⟩
  try dsimp only
  iapply (runs_bind c)
  iapply (part5 m c _ _ _ _)
  isplitr; · iexact Hctx
  isplitl [HO]; · iexact HO
  isplitl [Hout]; · iexact Hout
  isplitl [Vr0]; · iexact Vr0
  isplitl [Rr2]; · iexact Rr2
  isplitl [Sr2]; · iexact Sr2
  isplitl [Mscr]; · iexact Mscr
  iintro %w5_0 %w5_1 %w5_2 %w5_3 ⟨HO, Hout, Zr0, Sr2, Ktr1, Mscr⟩
  try dsimp only
  iapply (runs_bind c)
  iapply (part6 m c _ _ _ _ _)
  isplitr; · iexact Hctx
  isplitl [HO]; · iexact HO
  isplitl [Hwb]; · iexact Hwb
  isplitl [Hout]; · iexact Hout
  isplitl [Vl0]; · iexact Vl0
  iintro ⟨HO, Hwb, Hout, Zl0, Ktl1⟩
  try dsimp only
  iapply (runs_bind c)
  iapply (part7 m c _ _ _ _)
  isplitr; · iexact Hctx
  isplitl [HO]; · iexact HO
  isplitl [Hwb]; · iexact Hwb
  isplitl [Hout]; · iexact Hout
  isplitl [Vl1]; · iexact Vl1
  isplitl [Rl2]; · iexact Rl2
  isplitl [Sl2]; · iexact Sl2
  isplitl [Mscl]; · iexact Mscl
  isplitl [Vr1]; · iexact Vr1
  iintro ⟨HO, Hwb, Hout, Zl1, Sl2, Kbl1, Mscl, Zr1, Kbr1⟩
  try dsimp only
  iapply (runs_bind c)
  iapply (part8 m c _ _ _)
  isplitr; · iexact Hctx
  isplitl [HO]; · iexact HO
  isplitl [Hwb]; · iexact Hwb
  isplitl [Hout]; · iexact Hout
  isplitl [Kbr1]; · iexact Kbr1
  isplitl [Vz0]; · iexact Vz0
  isplitl [Vz1]; · iexact Vz1
  iintro ⟨HO, Hwb, Hout, Kbr1, Zz0, Kz0, Zz1, Kz1⟩
  try dsimp only
  iapply (runs_bind c)
  iapply (part9 m c _ _)
  isplitr; · iexact Hctx
  isplitl [HO]; · iexact HO
  isplitl [Kz0]; · iexact Kz0
  isplitl [Kz1]; · iexact Kz1
  isplitl [Msbr]; · iexact Msbr
  isplitl [Msbl]; · iexact Msbl
  isplitl [Rbra]; · iexact Rbra
  isplitl [Rbrb]; · iexact Rbrb
  isplitl [Sbra]; · iexact Sbra
  isplitl [Sbrb]; · iexact Sbrb
  iintro ⟨HO, Kz0, Kz1, Msbl, Sbra, Sbrb⟩
  try dsimp only
  iapply (runs_bind c)
  iapply (part10 m c _ _ _)
  isplitr; · iexact Hctx
  isplitl [HO]; · iexact HO
  isplitl [Hwb]; · iexact Hwb
  isplitl [Hout]; · iexact Hout
  isplitl [Kz0]; · iexact Kz0
  isplitl [Msbl]; · iexact Msbl
  isplitl [Mscr]; · iexact Mscr
  isplitl [Mscl]; · iexact Mscl
  isplitl [Rbla]; · iexact Rbla
  isplitl [Rblb]; · iexact Rblb
  isplitl [Rc2r]; · iexact Rc2r
  isplitl [Rc2l]; · iexact Rc2l
  isplitl [Sbla]; · iexact Sbla
  isplitl [Sblb]; · iexact Sblb
  isplitl [Sc2r]; · iexact Sc2r
  isplitl [Sc2l]; · iexact Sc2l
  iintro ⟨HO, Hwb, Hout, Kz0, Sbla, Sblb, Sc2r, Sc2l⟩
  try dsimp only
  iapply (runs_bind c)
  iapply (part11 m c _ _ _ _)
  isplitr; · iexact Hctx
  isplitl [HO]; · iexact HO
  isplitl [Hwb]; · iexact Hwb
  isplitl [Hout]; · iexact Hout
  isplitl [Kz1]; · iexact Kz1
  isplitl [Vr2]; · iexact Vr2
  isplitl [Rcr]; · iexact Rcr
  isplitl [Scr]; · iexact Scr
  iintro %w11_0 ⟨HO, Hwb, Hout, Kz1, Zr2, Scr, Ktr2⟩
  try dsimp only
  iapply (runs_bind c)
  iapply (part12 m c _ _ _ _ _ _)
  isplitr; · iexact Hctx
  isplitl [HO]; · iexact HO
  isplitl [Hwb]; · iexact Hwb
  isplitl [Hout]; · iexact Hout
  isplitl [Vl2]; · iexact Vl2
  isplitl [Rcl]; · iexact Rcl
  isplitl [Scl]; · iexact Scl
  iintro %w12_0 ⟨HO, Hwb, Hout, Zl2, Scl, Kbl2⟩
  try dsimp only
  iapply (runs_bind c)
  iapply (part13 m c _ _ _ _ _)
  isplitr; · iexact Hctx
  isplitl [HO]; · iexact HO
  isplitl [Vbra]; · iexact Vbra
  isplitl [Vbrb]; · iexact Vbrb
  isplitl [Vbla]; · iexact Vbla
  isplitl [Vblb]; · iexact Vblb
  iintro %w13_0 %w13_1 %w13_2 ⟨HO, Zbra, Zbrb, Zbla, Zblb, Kbra, Kbrb, Kbla, Kblb⟩
  try dsimp only
  iapply (runs_bind c)
  iapply (part14 m c _ _ _ _)
  isplitr; · iexact Hctx
  isplitl [Hwb]; · iexact Hwb
  isplitl [Hout]; · iexact Hout
  isplitl [Kbrb]; · iexact Kbrb
  isplitl [Kbla]; · iexact Kbla
  isplitl [Kblb]; · iexact Kblb
  iintro %w14_0 ⟨Hwb, Hout, Kbrb, Kbla, Kblb⟩
  try dsimp only
  iapply (runs_bind c)
  iapply (part15 m c _ _ _ _ _)
  isplitr; · iexact Hctx
  isplitl [HO]; · iexact HO
  isplitl [Hwb]; · iexact Hwb
  isplitl [Hout]; · iexact Hout
  isplitl [Vc2r]; · iexact Vc2r
  isplitl [Vc2l]; · iexact Vc2l
  iintro %w15_0 ⟨HO, Hwb, Hout, Zc2r, Zc2l, Kc2r, Kc2l⟩
  try dsimp only
  iapply (runs_bind c)
  iapply (part16 m c _ _ _ _ _ _)
  isplitr; · iexact Hctx
  isplitl [HO]; · iexact HO
  isplitl [Hwb]; · iexact Hwb
  isplitl [Hout]; · iexact Hout
  isplitl [Vcr]; · iexact Vcr
  iintro %w16_0 ⟨HO, Hwb, Hout, Zcr, Kcr⟩
  try dsimp only
  iapply (runs_bind c)
  iapply (part17 m c _ _ _)
  isplitr; · iexact Hctx
  isplitl [HO]; · iexact HO
  isplitl [Hwb]; · iexact Hwb
  isplitl [Hout]; · iexact Hout
  isplitl [Vcl]; · iexact Vcl
  isplitl [Sz0]; · iexact Sz0
  iintro ⟨HO, Hwb, Hout, Zcl, Kcl, Yz0, Xz0⟩
  try dsimp only
  iapply (runs_bind c)
  iapply (part18 m c)
  isplitr; · iexact Hctx
  isplitl [HO]; · iexact HO
  isplitl [Sr0]; · iexact Sr0
  isplitl [Sl0]; · iexact Sl0
  isplitl [Sz1]; · iexact Sz1
  isplitl [Sr1]; · iexact Sr1
  isplitl [Sl1]; · iexact Sl1
  iintro ⟨HO, Yr0, Yl0, Yz1, Yr1, Yl1, Xr0, Xl0, Xz1, Xr1, Xl1⟩
  try dsimp only
  iapply (runs_bind c)
  iapply (part19 m c)
  isplitr; · iexact Hctx
  isplitl [HO]; · iexact HO
  isplitl [Sr2]; · iexact Sr2
  isplitl [Sl2]; · iexact Sl2
  isplitl [Sbra]; · iexact Sbra
  isplitl [Sbrb]; · iexact Sbrb
  isplitl [Sbla]; · iexact Sbla
  isplitl [Sblb]; · iexact Sblb
  isplitl [Sc2r]; · iexact Sc2r
  isplitl [Sc2l]; · iexact Sc2l
  iintro ⟨HO, Yr2, Yl2, Ybra, Ybrb, Ybla, Yblb, Yc2r, Yc2l, Xr2, Xl2, Xbra, Xbrb, Xbla, Xblb, Xc2r, Xc2l⟩
  simp only [semSignalWord, semWaitWord, smemLoad, smemLoadElt, Prog.lift, Prog.bind_op, Prog.bind_ret, Prog.pure_eq_ret]
  iapply (wp_left m c .cr) $$ [HO Scr]
  · isplitr; · iexact Hctx
    isplitl [HO] <;> iassumption
  rw [snd_cr]
  iintro ⟨HO, Ycr, Xcr⟩
  iapply (wp_left m c .cl) $$ [HO Scl]
  · isplitr; · iexact Hctx
    isplitl [HO] <;> iassumption
  rw [snd_cl]
  iintro ⟨HO, Ycl, Xcl⟩
  iapply (runs_ret c)
  iapply Hk
  unfold Φ₁ scratch
  rw [bigSep_Xf, bigSep_Xf]
  isplitl [Hzb Yz0 Yz1 Yr0 Yr1 Yr2 Yl0 Yl1 Yl2 Ybra Ybrb Ybla Yblb Ycr Ycl Yc2r Yc2l Zz0 Zz1 Zr0 Zr1 Zr2 Zl0 Zl1 Zl2 Zbra Zbrb Zbla Zblb Zcr Zcl Zc2r Zc2l Xz0 Xr0 Xl0 Xz1 Xr1 Xl1 Hwb Xbla Kz0 Xbrb Kz1 Xr2 Ktr1 Kbr1 Xcr Ktr2 Ktl1 Xl2 Kbl1 Xcl Kbl2 Kbra Kbrb Kbla Kblb Kcr Kcl Kc2r Kc2l Xbra Xblb Xc2r Xc2l]
  · isplitl [Hzb Yz0 Yz1 Yr0 Yr1 Yr2 Yl0 Yl1 Yl2 Ybra Ybrb Ybla Yblb Ycr Ycl Yc2r Yc2l Zz0 Zz1 Zr0 Zr1 Zr2 Zl0 Zl1 Zl2 Zbra Zbrb Zbla Zblb Zcr Zcl Zc2r Zc2l]
    · isplitl [Hzb]; · iexact Hzb
      isplitl [Yz0 Yz1 Yr0 Yr1 Yr2 Yl0 Yl1 Yl2 Ybra Ybrb Ybla Yblb Ycr Ycl Yc2r Yc2l]
      · isplitl [Yz0]; · iexact Yz0
        isplitl [Yz1]; · iexact Yz1
        isplitl [Yr0]; · iexact Yr0
        isplitl [Yr1]; · iexact Yr1
        isplitl [Yr2]; · iexact Yr2
        isplitl [Yl0]; · iexact Yl0
        isplitl [Yl1]; · iexact Yl1
        isplitl [Yl2]; · iexact Yl2
        isplitl [Ybra]; · iexact Ybra
        isplitl [Ybrb]; · iexact Ybrb
        isplitl [Ybla]; · iexact Ybla
        isplitl [Yblb]; · iexact Yblb
        isplitl [Ycr]; · iexact Ycr
        isplitl [Ycl]; · iexact Ycl
        isplitl [Yc2r]; · iexact Yc2r
        iexact Yc2l
      isplitl [Zz0]; · iexact Zz0
      isplitl [Zz1]; · iexact Zz1
      isplitl [Zr0]; · iexact Zr0
      isplitl [Zr1]; · iexact Zr1
      isplitl [Zr2]; · iexact Zr2
      isplitl [Zl0]; · iexact Zl0
      isplitl [Zl1]; · iexact Zl1
      isplitl [Zl2]; · iexact Zl2
      isplitl [Zbra]; · iexact Zbra
      isplitl [Zbrb]; · iexact Zbrb
      isplitl [Zbla]; · iexact Zbla
      isplitl [Zblb]; · iexact Zblb
      isplitl [Zcr]; · iexact Zcr
      isplitl [Zcl]; · iexact Zcl
      isplitl [Zc2r]; · iexact Zc2r
      iexact Zc2l
    isplitl [Xz0 Xr0 Xl0 Xz1 Xr1 Xl1]
    · iapply (back_xc m c)
      isplitl [Xz0]; · iexact Xz0
      isplitl [Xr0]; · iexact Xr0
      isplitl [Xl0]; · iexact Xl0
      isplitl [Xz1]; · iexact Xz1
      isplitl [Xr1]; · iexact Xr1
      iexact Xl1
    isplitl [Hwb]
    · iapply (free_of wbM c (wbC m c))
      iexact Hwb
    isplitl [Xbla Kz0 Xbrb Kz1]
    · iapply (back_zb m c)
      isplitl [Xbla]; · iexact Xbla
      isplitl [Kz0]; · iexact Kz0
      isplitl [Xbrb]; · iexact Xbrb
      iexact Kz1
    isplitl [Xr2 Ktr1]
    · iapply (back_half tr1M c (tr1C m c))
      isplitl [Xr2]; · iexact Xr2
      iexact Ktr1
    isplitl [Kbr1]
    · iapply (free_of br1M c (br1C m c))
      iexact Kbr1
    isplitl [Xcr Ktr2]
    · iapply (back_half tr2M c (tr2C m c))
      isplitl [Xcr]; · iexact Xcr
      iexact Ktr2
    isplitl [Ktl1]
    · iapply (free_of tl1M c (tl1C m c))
      iexact Ktl1
    isplitl [Xl2 Kbl1]
    · iapply (back_half bl1M c (bl1C m c))
      isplitl [Xl2]; · iexact Xl2
      iexact Kbl1
    isplitl [Xcl Kbl2]
    · iapply (back_half bl2M c (bl2C m c))
      isplitl [Xcl]; · iexact Xcl
      iexact Kbl2
    isplitl [Kbra]
    · iapply (free_of braM c (braC m c))
      iexact Kbra
    isplitl [Kbrb]
    · iapply (free_of brbM c (brbC m c))
      iexact Kbrb
    isplitl [Kbla]
    · iapply (free_of blaM c (blaC m c))
      iexact Kbla
    isplitl [Kblb]
    · iapply (free_of blbM c (blbC m c))
      iexact Kblb
    isplitl [Kcr Kcl]
    · iapply (back_cz m c)
      isplitl [Kcr]; · iexact Kcr
      iexact Kcl
    isplitl [Kc2r]
    · iapply (free_of c2rM c (c2rC m c))
      iexact Kc2r
    isplitl [Kc2l]
    · iapply (free_of c2lM c (c2lC m c))
      iexact Kc2l
    isplitl [Xbra]
    · iapply (free_of sbrM c (sbrC m c))
      iexact Xbra
    isplitl [Xblb]
    · iapply (free_of sblM c (sblC m c))
      iexact Xblb
    isplitl [Xc2r]
    · iapply (free_of scrM c (scrC m c))
      iexact Xc2r
    iapply (free_of sclM c (sclC m c))
    iexact Xc2l
  isplitl [HO]; · iexact HO
  isplitl [Hx]; · iexact Hx
  isplitl [Hw]; · iexact Hw
  isplitl [Hsx]; · iexact Hsx
  isplitl [Hsw]; · iexact Hsw
  iexact Hout

end Body

end Cert.AllGather
-- ==== Proof.Launch.lean ====
/-
# The launch

The semaphores and their tokens as the launch deals them: every device gets what its body starts with.
-/
module

public import proofs.«01_k».proof.Proof.State

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and their tokens -/

/-- The transfers' semaphores, the kernel's own. -/
abbrev osem (p : Bool × Xf) : SemLoc sig := csem (some p)

theorem ownSemFacts : Pipeline.OwnSemFacts cfg0.spec osem := by decide

theorem csem_injective : Function.Injective csem := by decide

theorem kcell_injective : Function.Injective (kcell : Dev nD × CI → GSem nD τ sig) := by
  rintro ⟨c, i⟩ ⟨c', i'⟩ h
  have h1 : c = c' := congrArg (fun g : GSem nD τ sig => g.1.1) h
  have h2 : i = i' := csem_injective (congrArg Prod.snd h)
  rw [h1, h2]

/-- All the cells. -/
def cellsAll : Finset (GSem nD τ sig) := Finset.univ.map ⟨kcell, kcell_injective⟩

/-- The duties of a device's own cells: three of its barrier's, one of each end of each transfer. -/
abbrev TI : Type := Fin 3 ⊕ (Bool × Xf)

/-- The cell and the duty a token is for. -/
def tokSem : TI → SemLoc sig × Fin 3
  | .inl d => (.reg barS, d)
  | .inr p => (osem p, 0)

theorem tokSem_injective : Function.Injective tokSem := by
  rintro (d | p) (d' | p') h
  · exact congrArg Sum.inl (congrArg Prod.snd h)
  · exact absurd (csem_injective (a₁ := none) (a₂ := some p') (congrArg Prod.fst h)) (by simp)
  · exact absurd (csem_injective (a₁ := some p) (a₂ := none) (congrArg Prod.fst h)) (by simp)
  · exact congrArg Sum.inr (Option.some.inj (csem_injective (congrArg Prod.fst h)))

/-- A device's token as minted. -/
abbrev tokAt (x : Dev nD × TI) : GSem nD τ sig × ℕ × Fin 3 := (((x.1 : Thread nD τ), (tokSem x.2).1), 0, (tokSem x.2).2)

theorem tokAt_injective : Function.Injective tokAt := by
  rintro ⟨c, i⟩ ⟨c', i'⟩ h
  have h1 : c = c' := congrArg (fun y : GSem nD τ sig × ℕ × Fin 3 => y.1.1.1) h
  have h2 : i = i' := tokSem_injective (Prod.ext (congrArg (fun y : GSem nD τ sig × ℕ × Fin 3 => y.1.2) h) (congrArg (fun y : GSem nD τ sig × ℕ × Fin 3 => y.2.2) h))
  rw [h1, h2]

/-- All the tokens. -/
def toksAll : Finset (GSem nD τ sig × ℕ × Fin 3) := Finset.univ.map ⟨tokAt, tokAt_injective⟩

/-- The ghost state the launch starts from. -/
def u₀ : UU :=
  (initOf (Pipeline.cells cfgs cellOf_inj) (Pipeline.launchToks cfgs cellOf_inj), initOf cellsAll toksAll)

/-- The tokens of device `c`'s own cells. -/
def ownToks (c : Dev nD) : sProp 𝕄 :=
  iprop((bigSep Finset.univ fun d : Fin 3 => dutyTok ER (barCell c) 0 d)
    ∗ bigSep Finset.univ fun p : Bool × Xf => dutyTok ER (kcell (c, some p)) 0 0)

/-- What the launch deals device `c` at first: its cells at round 0, and their tokens. -/
def G (c : Dev nD) : sProp 𝕄 :=
  iprop((bigSep Finset.univ fun i : CI => roundState ER (Rd m) (kcell (c, i)) 0)
    ∗ ((bigSep Finset.univ fun i : CI => atPos ER (kcell (c, i)) 0 ∅ 0) ∗ (bigSep Finset.univ fun i : CI => reached ER (kcell (c, i)) 0))
    ∗ ownToks c)

theorem fund_all : BI.own (ER (initOf cellsAll toksAll)) ⊢ (|==> bigSep Finset.univ (G m) : sProp 𝕄) := by
  have hX (Φ : GSem nD τ sig → sProp 𝕄) : bigSep cellsAll Φ = bigSep Finset.univ fun c : Dev nD => bigSep Finset.univ fun i : CI => Φ (kcell (c, i)) := by
    unfold cellsAll; rw [bigSep_map, bigSep_univ_prod]; rfl
  have hT : bigSep toksAll (fun x => (dutyTok ER x.1 x.2.1 x.2.2 : sProp 𝕄)) = bigSep Finset.univ fun c : Dev nD => ownToks c := by
    unfold toksAll; rw [bigSep_map, bigSep_univ_prod]
    refine bigSep_congr fun c _ => ?_
    rw [bigSep_univ_sum]; rfl
  iintro HX
  imod (Rounds.fund ER (Rd m) cellsAll toksAll) $$ HX with ⟨Hst, Hr, Hat, Htok⟩
  imodintro
  ihave Hs := (Entails.of_eq (hX fun g => roundState ER (Rd m) g 0)) $$ Hst
  ihave Ha := (Entails.of_eq (hX fun g => atPos ER g 0 ∅ 0)) $$ Hat
  ihave Hm := (Entails.of_eq (hX fun g => reached ER g 0)) $$ Hr
  ihave Ht := (Entails.of_eq hT) $$ Htok
  unfold G; simp only [bigSep_sep']
  isplitl [Hs]; · iexact Hs
  isplitl [Ha Hm]
  · isplitl [Ha] <;> iassumption
  iexact Ht

/-! ## The semaphores at zero -/

omit [FloatOps F] in
/-- One of something for each cell of a device. -/
theorem bigSep_CI (Φ : CI → sProp 𝕄) : bigSep Finset.univ Φ = iprop(Φ none ∗ bigSep Finset.univ fun p : Bool × Xf => Φ (some p)) := by
  rw [bigSep_univ_equiv ((Equiv.sumComm PUnit.{1} (Bool × Xf)).trans (Equiv.optionEquivSumPUnit (Bool × Xf)).symm), bigSep_univ_sum,
    bigSep_univ_of_subsingleton PUnit.unit]
  rfl

omit [FloatOps F] in
/-- One of something for each end of each transfer. -/
theorem bigSep_ends (Φ : Bool × Xf → sProp 𝕄) : bigSep Finset.univ Φ
    = iprop((bigSep Finset.univ fun k => Φ (true, k)) ∗ bigSep Finset.univ fun k => Φ (false, k)) := by
  rw [bigSep_univ_prod, bigSep_univ_eq_bigSepL [true, false] (by decide) (by decide), bigSepL_cons_cons, bigSepL_singleton]
  rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun p : Bool × Xf => zeroAt (kcell (c, some p)) := rfl
omit [FloatOps F] in
theorem unscopedSems0_eq (c : Dev nD) : (unscopedSems0 c : sProp 𝕄) = zeroAt (barCell c) := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i))))
          ∗ ((bigSep Finset.univ fun i : CI => atPos ER (kcell (c, i)) 0 ∅ 0) ∗ (bigSep Finset.univ fun i : CI => reached ER (kcell (c, i)) 0))
          ∗ ownToks c) := by
  have hz : iprop(zeroAt (barCell c) ∗ bigSep Finset.univ fun p : Bool × Xf => zeroAt (kcell (c, some p)))
      = (bigSep Finset.univ fun i : CI => zeroAt (kcell (c, i)) : sProp 𝕄) :=
    (bigSep_CI (F := F) fun i : CI => zeroAt (kcell (c, i))).symm
  unfold G
  rw [ownSems0_eq, unscopedSems0_eq]
  iintro ⟨Ho, Hu, Hst, Hat, Htok⟩
  ihave Hv := (Entails.of_eq hz) $$ [Ho Hu]
  · isplitl [Hu] <;> iassumption
  imod (show iprop((bigSep Finset.univ fun i : CI => zeroAt (kcell (c, i))) ∗ bigSep Finset.univ fun i : CI => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- The device a transfer goes to, as a permutation of the devices. -/
def tgtE (k : Xf) : Dev nD ≃ Dev nD := ⟨tgt k, org k, org_tgt k, tgt_org k⟩
def lftE : Dev nD ≃ Dev nD := ⟨lft, rgt, rgt_lft, lft_rgt⟩
def rgtE : Dev nD ≃ Dev nD := ⟨rgt, lft, lft_rgt, rgt_lft⟩
def zeeE : Dev nD ≃ Dev nD := ⟨zee, zee, zee_zee, zee_zee⟩

/-- What stays with device `c` of the ghost state: its places at its cells, and the tokens of the duties it pays. -/
def kept (c : Dev nD) : sProp 𝕄 :=
  iprop(atPos ER (barCell c) 0 ∅ 0 ∗ barToks c ∗ (bigSep Finset.univ fun k : Xf => snd0 k c)
    ∗ bigSep Finset.univ fun k : Xf => atPos ER (rcvCell k c) 0 ∅ 0)

/-- What the launch gives device `c` of the ghost state. -/
def G' (c : Dev nD) : sProp 𝕄 := iprop((∃ K, recs m K) ∗ kept c)

omit [FloatOps F] in
/-- The tokens go around: each barrier's to the three neighbours that signal it, each receiving end's to its sender. -/
theorem deal : iprop((bigSep Finset.univ fun c : Dev nD => bigSep Finset.univ fun i : CI => atPos ER (kcell (c, i)) 0 ∅ 0)
      ∗ bigSep Finset.univ fun c : Dev nD => (ownToks c : sProp 𝕄))
    ⊢ bigSep Finset.univ fun c : Dev nD => kept c := by
  have hb : (bigSep Finset.univ fun c : Dev nD => bigSep Finset.univ fun d : Fin 3 => (dutyTok ER (barCell c) 0 d : sProp 𝕄))
      = bigSep Finset.univ fun c : Dev nD => barToks c := by
    rw [bigSep_congr (s := Finset.univ) (fun (c : Dev nD) _ => show (bigSep Finset.univ fun d : Fin 3 => (dutyTok ER (barCell c) 0 d : sProp 𝕄))
        = iprop(dutyTok ER (barCell c) 0 0 ∗ dutyTok ER (barCell c) 0 1 ∗ dutyTok ER (barCell c) 0 2) from
        bigSep_univ_eq_bigSepL [0, 1, 2] (by decide) (by decide) _)]
    unfold barToks
    rw [bigSep_sep', bigSep_sep', bigSep_sep', bigSep_sep', bigSep_univ_equiv lftE (fun c : Dev nD => (dutyTok ER (barCell c) 0 0 : sProp 𝕄)),
      bigSep_univ_equiv rgtE (fun c : Dev nD => (dutyTok ER (barCell c) 0 1 : sProp 𝕄)), bigSep_univ_equiv zeeE (fun c : Dev nD => (dutyTok ER (barCell c) 0 2 : sProp 𝕄))]
    rfl
  have hr : (bigSep Finset.univ fun c : Dev nD => bigSep Finset.univ fun k : Xf => (dutyTok ER (rcvCell k c) 0 0 : sProp 𝕄))
      = bigSep Finset.univ fun c : Dev nD => bigSep Finset.univ fun k : Xf => dutyTok ER (rcvCell k (tgt k c)) 0 0 := by
    rw [bigSep_univ_comm, bigSep_univ_comm (fun (c : Dev nD) (k : Xf) => (dutyTok ER (rcvCell k (tgt k c)) 0 0 : sProp 𝕄))]
    exact bigSep_congr fun k _ => bigSep_univ_equiv (tgtE k) (fun c : Dev nD => (dutyTok ER (rcvCell k c) 0 0 : sProp 𝕄))
  unfold ownToks kept snd0
  simp only [bigSep_CI, bigSep_ends, bigSep_sep']
  rw [hb, hr]
  iintro ⟨⟨Ha, Hs, Hv⟩, Hb, Ht, Hu⟩
  isplitl [Ha]; · iexact Ha
  isplitl [Hb]; · iexact Hb
  isplitl [Hs Ht Hu]
  · isplitl [Ht]; · iexact Ht
    isplitl [Hu]; · iexact Hu
    iexact Hs
  iexact Hv

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (Rd m) κ (kcell (c, i))))
          ∗ ((bigSep Finset.univ fun i : CI => atPos ER (kcell (c, i)) 0 ∅ 0) ∗ (bigSep Finset.univ fun i : CI => reached ER (kcell (c, i)) 0))
          ∗ ownToks c) : sProp 𝕄)
      ⊢ bigSep Finset.univ (G' m) := by
  rw [bigSep_sep', bigSep_sep', bigSep_sep', ← bigSep_univ_prod (fun x : Dev nD × CI => iprop(∃ κ : ℕ, cellInv ER (Rd m) κ (kcell x))),
    ← bigSep_univ_prod (fun x : Dev nD × CI => (reached ER (kcell x) 0 : sProp 𝕄))]
  iintro ⟨HI, ⟨Hat, #HR⟩, Htok⟩
  ihave HK := (BI.bigSep_exists_pi Finset.univ (fun (x : Dev nD × CI) (κ : ℕ) => (cellInv ER (Rd m) κ (kcell x) : sProp 𝕄))) $$ HI
  icases HK with ⟨%K, #HI⟩
  ihave Hd := (deal (F := F)) $$ [Hat Htok]
  · isplitl [Hat] <;> iassumption
  iapply (with_persistent (R := recs m K) fun c _ => show iprop(recs m K ∗ kept c) ⊢ G' m c from by
    unfold G'
    iintro ⟨H, Hk⟩
    isplitl [H]; · iexists K; iexact H
    iexact Hk)
  isplitr
  · unfold recs; isplitl; · iexact HI
    iexact HR
  iexact Hd

/-- All the devices' semaphores at once become what each device's body starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- All that is owed a transfer's receiving end: what its one sender owes. -/
theorem sum_owedL (k : Xf) (c : Dev nD) : {ks : List Xf} → ks.Nodup → ∑ d : Dev nD, owedL d ks (rcvCell k c) () = if k ∈ ks then amt k else 0
  | [], _ => by simp [owedL]
  | j :: ks, h => by
    have ih := sum_owedL k c (List.nodup_cons.mp h).2
    have hj : ∑ d : Dev nD, (tallyAt (rcvCell j (tgt j d)) () (amt j) : CellTallies nD τ sig Unit) (rcvCell k c) () = if k = j then amt k else 0 := by
      by_cases e : k = j
      · subst e
        rw [if_pos rfl, Finset.sum_eq_single (org k c)]
        · rw [tallyAt_apply, tgt_org, if_pos ⟨rfl, rfl⟩]
        · intro d _ hd
          rw [tallyAt_apply, if_neg]
          rintro ⟨h1, _⟩
          have h2 : c = tgt k d := congrArg (fun g : GSem nD τ sig => g.1.1) h1
          exact hd (by rw [h2, org_tgt])
        · intro h'; exact absurd (Finset.mem_univ _) h'
      · rw [if_neg e]
        refine Finset.sum_eq_zero fun d _ => ?_
        rw [tallyAt_apply, if_neg]
        rintro ⟨h1, _⟩
        have h2 : some (false, k) = some (false, j) := csem_injective (congrArg Prod.snd h1)
        exact e (congrArg Prod.snd (Option.some.inj h2))
    unfold owedL
    simp only [Pi.add_apply, Finsupp.add_apply]
    rw [Finset.sum_add_distrib, ih, hj]
    by_cases e : k = j
    · subst e
      rw [if_neg (List.nodup_cons.mp h).1, if_pos rfl, if_pos List.mem_cons_self, Nat.zero_add]
    · rw [if_neg e, Nat.add_zero]
      simp only [List.mem_cons, e, false_or]

/-- No transfer is owed to a barrier. -/
theorem owedL_bar (d c : Dev nD) : (ks : List Xf) → owedL d ks (barCell c) () = 0
  | [] => rfl
  | j :: ks => by
    unfold owedL
    rw [Pi.add_apply, Finsupp.add_apply, owedL_bar d c ks, tallyAt_apply, if_neg]
    rintro ⟨h1, _⟩
    exact absurd (csem_injective (a₁ := none) (a₂ := some (false, j)) (congrArg Prod.snd h1)) (by simp)

/-- One unit to the barrier of a neighbour, from each device, is one unit to each barrier. -/
theorem sum_bar (e : Dev nD ≃ Dev nD) (c : Dev nD) :
    ∑ d : Dev nD, (tallyAt (barCell (e d)) () 1 : CellTallies nD τ sig Unit) (barCell c) () = 1 := by
  rw [Finset.sum_eq_single (e.symm c)]
  · rw [tallyAt_apply, Equiv.apply_symm_apply, if_pos ⟨rfl, rfl⟩]
  · intro d _ hd
    rw [tallyAt_apply, if_neg]
    rintro ⟨h1, _⟩
    have h2 : c = e d := congrArg (fun g : GSem nD τ sig => g.1.1) h1
    exact hd (by rw [h2, Equiv.symm_apply_apply])
  · intro h'; exact absurd (Finset.mem_univ _) h'
/-- and none to a transfer's receiving end. -/
theorem bar_rcv (n c : Dev nD) (k : Xf) : (tallyAt (barCell n) () 1 : CellTallies nD τ sig Unit) (rcvCell k c) () = 0 := by
  rw [tallyAt_apply, if_neg]
  rintro ⟨h1, _⟩
  exact absurd (csem_injective (a₁ := some (false, k)) (a₂ := none) (congrArg Prod.snd h1)) (by simp)

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same]
  unfold O₀ O₁ O₂
  simp only [Pi.add_apply, Finsupp.add_apply, owedL_bar, Nat.zero_add]
  rw [Finset.sum_add_distrib, Finset.sum_add_distrib]
  exact congrArg₂ (· + ·) (congrArg₂ (· + ·) (sum_bar zeeE c) (sum_bar rgtE c)) (sum_bar lftE c)

theorem launch_rcv (k : Xf) (c : Dev nD) :
    tallyOn (rcvCell k c) (launchCredit (Pipeline.owing O₀) 0 (rcvCell k c)) = (tallyAt (rcvCell k c) () (amt k) : CellTallies nD τ sig Unit) := by
  unfold tallyAt; refine congrArg _ (Finsupp.ext fun u => ?_); cases u
  rw [Pipeline.launchCredit_owing, Finsupp.single_eq_same]
  unfold O₀ O₁ O₂
  simp only [Pi.add_apply, Finsupp.add_apply, bar_rcv, Nat.add_zero]
  rw [sum_owedL k c (ks := order) (by decide), if_pos (by cases k <;> decide)]

/-- The semaphores a device is owed on: its barrier and its receiving ends. -/
def inSem : Option Xf → SemLoc sig
  | none => .reg barS
  | some k => .dma (rcvS k)

theorem inSem_injective : Function.Injective inSem := by decide

omit [FloatOps F] in
theorem creds (c : Dev nD) :
    (Pipeline.launchCred O₀ c : sProp 𝕄) ⊢ iprop(cred (tallyAt (barCell c) () 3) ∗ bigSep Finset.univ fun k : Xf => cred (tallyAt (rcvCell k c) () (amt k))) := by
  unfold Pipeline.launchCred
  refine BI.Entails.trans (BI.bigSep_subset (t := Finset.univ.map ⟨inSem, inSem_injective⟩) (Finset.subset_univ _)) ?_
  rw [bigSep_map, bigSep_univ_equiv ((Equiv.sumComm PUnit.{1} Xf).trans (Equiv.optionEquivSumPUnit Xf).symm), bigSep_univ_sum,
    bigSep_univ_of_subsingleton PUnit.unit, ← launch_bar c, bigSep_congr (s := Finset.univ) (fun (k : Xf) _ => congrArg cred (launch_rcv k c).symm)]
  exact BI.Entails.refl _

/-- What the launch hands device `c` is what its body starts with. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' kept start ctx bar0 rcv0
  rw [bigSep_sep']
  iintro ⟨-, Hlev, Hcr, -, HK, Hb, Ht, Hs, Hv⟩
  ihave Hc := (creds (F := F) c) $$ Hcr
  icases Hc with ⟨H1, HN⟩
  imodintro
  isplitl
  · isplitl [HK Hlev]
    · isplitl [HK]; · iexact HK
      iexact Hlev
    isplitl [H1 Hb]
    · isplitl [H1]; · iexact H1
      iexact Hb
    isplitl [Ht]; · iexact Ht
    isplitl [Hs]; · iexact Hs
    isplitl [HN]; · iexact HN
    iexact Hv
  · iempintro

end Cert.AllGather
-- ==== Proof.Cover.lean ====
/-
# The pieces cover the result

The rows each stored piece starts at, and that the seventeen pieces meet every row: what the result held before does not show in it.
-/
module

public import proofs.«01_k».proof.Proof.Pieces

@[expose] public section

noncomputable section

namespace Cert.AllGather

open Cert.KernelIdeal Cert.KernelIdeal.Gen
open Idealize.ShloMosaic Idealize.ShloMosaic.TcCoe

variable {F : FTy → Type} [FloatOps F]
variable (m : (ℓ : Loc nD τ sig) → Buf (Elt F) ℓ)

/-! ## Where the pieces lie -/

section Offsets
variable (c : Dev nD)

theorem at_own : k0_off1 c = ![512 * c.val, 0] := by revert c; decide +kernel
theorem at_top_lft : k0_off2 c 3#32 = ![512 * (lft c).val, 0] := by revert c; decide +kernel
theorem at_top_rgt : k0_off2 c 1#32 = ![512 * (rgt c).val, 0] := by revert c; decide +kernel
theorem at_bot_rgt : k0_off3 c 1#32 = ![512 * (rgt c).val + 256, 0] := by revert c; decide +kernel
theorem at_bot_lft : k0_off3 c 3#32 = ![512 * (lft c).val + 256, 0] := by revert c; decide +kernel
theorem at_top_zee : k0_off4 c = ![512 * (zee c).val, 0] := by revert c; decide +kernel
theorem at_bot_zee : k0_off5 c = ![512 * (zee c).val + 256, 0] := by revert c; decide +kernel
theorem at_top_opp : k0_off2 c 2#32 = ![512 * (lft (lft c)).val, 0] := by revert c; decide +kernel
theorem at_bot_opp : k0_off3 c 2#32 = ![512 * (rgt (rgt c)).val + 256, 0] := by revert c; decide +kernel
theorem at_top_zee_lft : k0_off6 c 3#32 64#32 = ![512 * (zee (lft c)).val + 64, 0] := by revert c; decide +kernel
theorem at_bot_zee_lft : k0_off7 c 3#32 = ![512 * (zee (lft c)).val + 256, 0] := by revert c; decide +kernel
theorem at_top_zee_rgt : k0_off8 c 1#32 = ![512 * (zee (rgt c)).val, 0] := by revert c; decide +kernel
theorem at_bot_zee_rgt : k0_off6 c 1#32 256#32 = ![512 * (zee (rgt c)).val + 256, 0] := by revert c; decide +kernel
theorem at_first_zee_lft : k0_off9 c = ![512 * (lft (zee c)).val, 0] := by revert c; decide +kernel
theorem at_last_zee_rgt : k0_off10 c = ![512 * (rgt (zee c)).val + 448, 0] := by revert c; decide +kernel
theorem at_top_zee_opp : k0_off8 c 2#32 = ![512 * (lft (lft (zee c))).val, 0] := by revert c; decide +kernel
theorem at_bot_zee_opp : k0_off7 c 2#32 = ![512 * (rgt (rgt (zee c))).val + 256, 0] := by revert c; decide +kernel

end Offsets

/-- The first row and the number of rows of each piece, in order. -/
def spans (c : Dev nD) : List (ℕ × ℕ) :=
  [(512 * c.val, 512), (512 * (lft c).val, 256), (512 * (rgt c).val, 256), (512 * (rgt c).val + 256, 256), (512 * (lft c).val + 256, 256),
   (512 * (zee c).val, 256), (512 * (zee c).val + 256, 256), (512 * (lft (lft c)).val, 256), (512 * (rgt (rgt c)).val + 256, 256),
   (512 * (zee (lft c)).val + 64, 192), (512 * (zee (lft c)).val + 256, 256), (512 * (zee (rgt c)).val, 256), (512 * (zee (rgt c)).val + 256, 192),
   (512 * (lft (zee c)).val, 64), (512 * (rgt (zee c)).val + 448, 64), (512 * (lft (lft (zee c))).val, 256), (512 * (rgt (rgt (zee c))).val + 256, 256)]

/-- Every run of 64 rows lies in some piece. -/
theorem spans_cover : ∀ (c : Dev nD) (b : Fin 64), ∃ s ∈ spans c, s.1 ≤ 64 * b.val ∧ 64 * b.val + 64 ≤ s.1 + s.2 := by decide +kernel

/-- A piece holds the rows of a span, over all columns. -/
def Spans (p : Piece F) (s : ℕ × ℕ) : Prop := ∀ i : S4096x256.Idx, s.1 ≤ (i 0).val → (i 0).val < s.1 + s.2 → i ∈ p.r.set

theorem spans_unit {off : Fin 2 → ℕ} {n R : ℕ} (h : off = ![R, 0]) {size : Fin 2 → ℕ} (hs : size = ![n, 256]) {inb} {w} :
    Spans (F := F) ⟨Rect.unit (s := S4096x256) off size inb, w⟩ (R, n) := by
  subst h; subst hs
  intro i h1 h2
  rw [Rect.mem_set_unit]
  intro a
  match a with
  | ⟨0, _⟩ => exact ⟨h1, h2⟩
  | ⟨1, _⟩ => exact ⟨Nat.zero_le _, lt_of_lt_of_eq (i 1).isLt (Nat.zero_add 256).symm⟩

theorem pieces_spans (c : Dev nD) : List.Forall₂ Spans (pieces m c) (spans c) :=
  .cons (spans_unit (at_own c) rfl) <| .cons (spans_unit (at_top_lft c) rfl) <| .cons (spans_unit (at_top_rgt c) rfl) <| .cons (spans_unit (at_bot_rgt c) rfl) <|
  .cons (spans_unit (at_bot_lft c) rfl) <| .cons (spans_unit (at_top_zee c) rfl) <| .cons (spans_unit (at_bot_zee c) rfl) <| .cons (spans_unit (at_top_opp c) rfl) <|
  .cons (spans_unit (at_bot_opp c) rfl) <| .cons (spans_unit (at_top_zee_lft c) rfl) <| .cons (spans_unit (at_bot_zee_lft c) rfl) <| .cons (spans_unit (at_top_zee_rgt c) rfl) <|
  .cons (spans_unit (at_bot_zee_rgt c) rfl) <| .cons (spans_unit (at_first_zee_lft c) rfl) <| .cons (spans_unit (at_last_zee_rgt c) rfl) <|
  .cons (spans_unit (at_top_zee_opp c) rfl) <| .cons (spans_unit (at_bot_zee_opp c) rfl) .nil

theorem exists_of_forall₂ {α β : Type} {R : α → β → Prop} {l : List α} {l' : List β} (h : List.Forall₂ R l l') (b : β) (hb : b ∈ l') : ∃ a ∈ l, R a b := by
  induction h with
  | nil => cases hb
  | cons hr _ ih =>
    rcases List.mem_cons.mp hb with rfl | hb
    · exact ⟨_, List.mem_cons_self, hr⟩
    · obtain ⟨a, ha, hr'⟩ := ih hb
      exact ⟨a, List.mem_cons_of_mem _ ha, hr'⟩

/-- Every index of the result lies in some piece. -/
theorem pieces_cover (c : Dev nD) (i : S4096x256.Idx) : ∃ p ∈ pieces m c, i ∈ p.r.set := by
  have hi : (i 0).val < 4096 := (i 0).isLt
  obtain ⟨s, hs, h1, h2⟩ := spans_cover c ⟨(i 0).val / 64, by omega⟩
  obtain ⟨p, hp, h⟩ := exists_of_forall₂ (pieces_spans m c) s hs
  have h1' : s.1 ≤ 64 * ((i 0).val / 64) := h1
  have h2' : 64 * ((i 0).val / 64) + 64 ≤ s.1 + s.2 := h2
  exact ⟨p, hp, h i (by omega) (by omega)⟩

/-! ## What a stored piece leaves -/

theorem mem_rect {r : Rect S4096x256} {i : S4096x256.Idx} : i ∈ r.set ↔ ∃ j, r.emb j = i := by
  rw [← Rect.map_emb_univ r]
  simp only [Finset.mem_map, Finset.mem_univ, true_and]

theorem put_emb (p : Piece F) (f : Out F) (j : p.r.shape.Idx) : put p f (p.r.emb j) = p.w j :=
  ((oM : Memref sig .tc .vmem S4096x256 .f32).access p.r).write_emb_of_mem f p.w (Finset.mem_univ j)

theorem put_off (p : Piece F) (f : Out F) {i : S4096x256.Idx} (h : i ∉ p.r.set) : put p f i = f i := by
  refine ((oM : Memref sig .tc .vmem S4096x256 .f32).access p.r).write_of_not_mem f p.w Finset.univ fun hi => h ?_
  obtain ⟨j, -, hj⟩ := Finset.mem_map.mp hi
  exact mem_rect.mpr ⟨j, hj⟩

/-- Two results that agree at an index, or that a piece to come will make agree there, end up agreeing. -/
theorem fold_agree (i : S4096x256.Idx) : ∀ (ps : List (Piece F)) (f g : Out F), (f i = g i ∨ ∃ p ∈ ps, i ∈ p.r.set) →
    ps.foldl (fun f p => put p f) f i = ps.foldl (fun f p => put p f) g i
  | [], f, g, h => h.resolve_right fun ⟨p, hp, _⟩ => by cases hp
  | p :: ps, f, g, h => fold_agree i ps (put p f) (put p g) <| by
    by_cases hi : i ∈ p.r.set
    · obtain ⟨j, rfl⟩ := mem_rect.mp hi
      exact Or.inl ((put_emb p f j).trans (put_emb p g j).symm)
    · rcases h with h | ⟨q, hq, hqi⟩
      · exact Or.inl (by rw [put_off p f hi, put_off p g hi, h])
      · rcases List.mem_cons.mp hq with rfl | hq
        · exact absurd hqi hi
        · exact Or.inr ⟨q, hq, hqi⟩

/-- A result whose pieces are stored over it is left as it is. -/
theorem fold_fixed (G : Out F) : ∀ ps : List (Piece F), (∀ p ∈ ps, ∀ j, p.w j = G (p.r.emb j)) → ps.foldl (fun f p => put p f) G = G
  | [], _ => rfl
  | p :: ps, h => by
    have hp : put p G = G := funext fun i => by
      by_cases hi : i ∈ p.r.set
      · obtain ⟨j, rfl⟩ := mem_rect.mp hi
        exact (put_emb p G j).trans (h p List.mem_cons_self j)
      · exact put_off p G hi
    rw [List.foldl_cons, hp]
    exact fold_fixed G ps fun q hq => h q (List.mem_cons_of_mem _ hq)

/-- The result of device `c`. -/
def outC (c : Dev nD) : Out F := outs m c fun _ => Scalar.ofBits .f32 0x00000000#32

theorem outs_agree (c : Dev nD) (f g : Out F) : outs m c f = outs m c g := by
  funext i
  have h := pieces_cover m c i
  unfold outs
  generalize pieces m c = ps at h ⊢
  exact fold_agree i ps f g (Or.inr h)

theorem outs_eq (c : Dev nD) (f : Out F) : outs m c f = outC m c := outs_agree m c f _

/-- A result that all the pieces are pieces of is the result. -/
theorem outC_eq (c : Dev nD) (G : Out F) (h : ∀ p ∈ pieces m c, ∀ j, p.w j = G (p.r.emb j)) : outC m c = G := by
  rw [← outs_eq m c G]
  unfold outs
  generalize pieces m c = ps at h ⊢
  exact fold_fixed G ps h

end Cert.AllGather
-- ==== Proof.Whole.lean ====
/-
# Whole windows

A window of a kernel with no grid covers its array.
-/
module

public import Idealize.ShloMosaic.Lib.Pipeline.Value

@[expose] public section

noncomputable section

namespace Cert.AllGather

open Idealize.ShloMosaic

/-- An index of the window's block is the same index of its array. -/
theorem whole_emb {sig : RefSig} {s : Shape} {e : EltTy} {cs : CoreSpace} (arr : Memref sig .tc .hbm s e) (isOut sync : Bool)
    (stage : Memref sig .tc (.core cs) ⟨s.rank, s.size⟩ e) (sem : DmaSem sig) (harr : arr.IsWhole) (hstage : stage.IsWhole)
    (t : Fin Pipeline.Grid.none.N) (j : s.Idx) :
    ((Pipeline.Window.whole arr isOut sync stage sem harr hstage).blk t).view.emb j = arr.view.emb j := by
  show arr.view.emb (((Pipeline.Window.whole arr isOut sync stage sem harr hstage).rect t).emb j) = arr.view.emb j
  refine congrArg _ (funext fun a => Fin.ext ?_)
  show 0 * s.size a + 1 * (j a).val = (j a).val
  omega

/-- The whole of a one-element array starts at zero. -/
theorem one_zero : (![0] : Fin 1 → ℕ) = fun _ => 0 := by decide

/-- The one index of a one-element array. -/
def one : (⟨1, ![1]⟩ : Shape).Idx := fun a => match a with | ⟨0, _⟩ => (0 : Fin 1)

theorem one_only (j : (⟨1, ![1]⟩ : Shape).Idx) : j = one :=
  funext fun a => match a with | ⟨0, _⟩ => Subsingleton.elim (α := Fin 1) _ _

end Cert.AllGather
-- ==== Proof.Run.lean ====
/-
# The run

The kernel launched on the eight devices: it ends, at the computed contents, with every counter at zero.
-/
module

public import proofs.«01_k».proof.Proof.Body
public import proofs.«01_k».proof.Proof.Launch
public import proofs.«01_k».proof.Proof.Cover
public import proofs.«01_k».proof.Proof.Whole
public import proofs.«01_k».proof.Proof.Gen.KernelIdeal.Points
public import Idealize.ShloMosaic.Lib.Pipeline.CollectiveSegs

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

attribute [local irreducible] outC

/-! ## What the launch is told -/

/-- Device `c`'s arrays, what its buffers hold after the body, what the body starts and ends with, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outC m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

/-- A staging buffer held whole at the contents `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

omit [FloatOps F] in
theorem owns_whole_eq (c : Dev nD) (b : Ref sig .tc) (X : b.ty.Contents (Elt F)) :
    owns (Ix := Unit) (Name := ℕ) (U := UU) (Lvl := ℕ) (c : Thread nD τ) (Memref.whole b) fullShare X = stg c b X := by
  unfold owns; simp only [Memref.view_whole, View.read_whole, View.set_whole]

omit [FloatOps F] in
/-- Holding all a whole memref covers is holding its buffer. -/
theorem pts_whole (c : Dev nD) (b : Ref sig .tc) (f : Buf (Elt F) ((c : Thread nD τ).loc b)) :
    (pts (Memref.whole b) c fullShare f : sProp 𝕄) = iprop((c : Thread nD τ).loc b ↦{fullShare} f) := by
  unfold pts; simp only [Memref.view_whole, View.set_whole]

omit [FloatOps F] in
theorem free_whole (c : Dev nD) (b : Ref sig .tc) :
    (free (Memref.whole b) c : sProp 𝕄) = iprop(∃ f : Buf (Elt F) ((c : Thread nD τ).loc b), (c : Thread nD τ).loc b ↦{fullShare} f) := by
  unfold free; exact congrArg _ (funext fun f => pts_whole c b f)

omit [FloatOps F] in
/-- The scratch the launch hands over. -/
theorem scratch_eq (c : Dev nD) : (scratch c : sProp 𝕄) = Pipeline.scopedRest cfg0.spec c := by
  rw [scopedRest0_eq]; unfold scratch; simp only [← free_whole]

section Obligation

set_option maxRecDepth 8000

/-- What the pipeline gives the body at its one point, -/
def given (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- and what it takes back. -/
def taken (c : Dev nD) : sProp 𝕄 :=
  iprop(Φ₁ c ∗ (dats m ρ 0 c).owesAt () t0_0.succ
    ∗ stg c cc0_stg0_0 (xstg m c) ∗ stg c cc0_stg1_0 (wstg m c) ∗ stg c cc0_stg2_0 (sxstg m c) ∗ stg c cc0_stg3_0 (swstg m c)
    ∗ stg c cc0_stg4_0 (outC m c))

/-- The program the pipeline runs there. -/
theorem body_row : defs₀ (F := F) .tc cfg0.body (cfg0.bodyArgs t0_0 (cfg0.slots t0_0)) = bodyAt0 t0_0 := by
  unfold defs₀; rw [Defs.onTc_tc]

theorem body_obligation (c : Dev nD) : BodyObligation (dats (F := F) m ρ 0 c) (defs₀ (F := F)) 𝒱₀ () Set.univ := fun t => by
  rw [fin_N0 t, bigSep_W0, bigSep_W0, body_row]
  simp only [owns_whole_eq]
  show given m ρ c ⊢ runs c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 cc0_scratch25 cc0_scratch26 cc0_scratch27 cc0_scratch28 cc0_scratch29 cc0_scratch30 cc0_scratch31)
    (fun _ => taken m ρ c)
  unfold given
  iintro ⟨HΦ, Ho, ⟨%d0, %f0, %e0, Hx⟩, ⟨%d1, %f1, %e1, Hw⟩, ⟨%d2, %f2, %e2, Hsx⟩, ⟨%d3, %f3, %e3, Hsw⟩, ⟨%d4, %f4, %e4, Hout⟩⟩
  have h0 : f0 = xstg m c := by rw [e0]; unfold Dat.before; rw [if_pos (fetch0_0 t0_0)]; rfl
  have h1 : f1 = wstg m c := by rw [e1]; unfold Dat.before; rw [if_pos (fetch0_1 t0_0)]; rfl
  have h2 : f2 = sxstg m c := by rw [e2]; unfold Dat.before; rw [if_pos (fetch0_2 t0_0)]; rfl
  have h3 : f3 = swstg m c := by rw [e3]; unfold Dat.before; rw [if_pos (fetch0_3 t0_0)]; rfl
  rw [h0, h1, h2, h3]
  unfold Dat.owesAt Pipeline.owesWithin
  icases Ho with ⟨%W, %hW, HO⟩
  rw [show (dats m ρ 0 c).owed t0_0.castSucc = O₀ c from rfl]
  iapply (sound_body m c f4 (Q := fun _ => taken m ρ c))
  rw [pts_whole, pts_whole, pts_whole, pts_whole, pts_whole, pts_whole, outs_eq]
  isplitl [HΦ]; · iexact HΦ
  isplitl [HO]
  · unfold owesE; iexists W; iexact HO
  isplitl [Hx]; · iexact Hx
  isplitl [Hw]; · iexact Hw
  isplitl [Hsx]; · iexact Hsx
  isplitl [Hsw]; · iexact Hsw
  isplitl [Hout]; · iexact Hout
  iintro ⟨HΦ, HO, Hx, Hw, Hsx, Hsw, Hout⟩
  unfold taken Dat.owesAt Pipeline.owesWithin owesE
  icases HO with ⟨%W', HO⟩
  rw [show (dats m ρ 0 c).owed t0_0.succ = owedL c [] from rfl]
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

end Obligation

/-! ## The launch's conditions -/

theorem share_eq (c : Dev nD) (w : Fin cfg0.W) : (dats m ρ 0 c).share w = fullShare := by unfold Dat.share; split <;> rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq, ownSems0_eq, unscopedSems0_eq, bigSep_ends]
  unfold Φ₁
  iintro ⟨⟨Hb, Hs, Hv⟩, Hr⟩
  isplitl [Hb]; · iexact Hb
  isplitl [Hs Hv]
  · isplitl [Hs] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> intro u <;> rfl) _ (by
      rcases t with ⟨_ | _, ht⟩
      · exact Or.inl rfl
      · exact Or.inr rfl)

/-! ## The run -/

/-- The array of window `w` after the run. -/
def finalA (c : Dev nD) (w : Fin cfg0.W) : Buf (Elt F) ((cfg0.win w).arr.view.loc (c : Thread nD τ)) := (dats m ρ 0 c).arrAt w cfg0.N

set_option maxRecDepth 8000 in
/-- From any memory with zero counters every execution ends, every device's arrays are at these contents and every counter is zero again. -/
theorem run_main : θ_run defs (onTc (τ := τ) (main (F := F))) (s₀ m ρ) (fun r =>
    (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What the one point writes back is what the body left in the output's buffer. -/
theorem written (c : Dev nD) (t : Fin cfg0.N) :
    (dats m ρ 0 c).flushed 4 t = ((cfg0.win 4).blk t).view.read (Elt F) (outC m c) := by
  show (cfg0.win 4).cut (grid0.coords t) ((dats m ρ 0 c).after 4 t) = _
  rw [show (dats m ρ 0 c).after 4 t = outC m c from rfl]
  generalize outC m c = out
  exact funext fun j => congrArg out (whole_emb (Memref.whole main_v1) _ _ _ _ (Memref.isWhole_whole _) (hstage0_4 0) t j).symm

/-- So that is the result array after the run. -/
theorem final_out (c : Dev nD) : finalA m ρ c 4 = outC m c :=
  (dats m ρ 0 c).arrAt_eq_of_cover 4 (outC m c) (fun t _ => written m ρ c t)
    fun i => ⟨t0_0, flush0_4 _, by
      have h := ((cfg0.win 4).blk t0_0).view.emb_mem_set i
      rwa [show ((cfg0.win 4).blk t0_0).view.emb i = i from whole_emb (Memref.whole main_v1) _ _ _ _ (Memref.isWhole_whole _) (hstage0_4 0) t0_0 i] at h⟩

/-- The run by name: the result, the four arguments as they were, every counter zero. -/
theorem run_kernel : θ_run defs (onTc (τ := τ) (main (F := F))) (s₀ m ρ) (fun r =>
    (∀ c : Dev nD, r.2.mem ((c : Thread nD τ).loc main_v1) = outC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c 4).trans (final_out m ρ c),
      (h.1 c 0).trans ((dats m ρ 0 c).arrAt_in 0 rfl _), (h.1 c 1).trans ((dats m ρ 0 c).arrAt_in 1 rfl _),
      (h.1 c 2).trans ((dats m ρ 0 c).arrAt_in 2 rfl _), (h.1 c 3).trans ((dats m ρ 0 c).arrAt_in 3 rfl _)⟩, h.2⟩)
    (run_main m ρ)

end Cert.AllGather
-- ==== Proof.Rows.lean ====
/-
# What the buffers hold, by rows of the whole of `x`

Every buffer that a product reads holds consecutive rows of `x`: which, for each of them.
-/
module

public import proofs.«01_k».proof.Proof.Cover
public import Idealize.ShloMosaic.Lib.ValueIdxCore

@[expose] public section

noncomputable section

namespace Cert.AllGather

open Cert.KernelIdeal Cert.KernelIdeal.Gen
open Idealize.ShloMosaic Idealize.ShloMosaic.TcCoe
open Idealize.ShloMosaic.ValueIdx (ix2)

variable {F : FTy → Type} [FloatOps F]
variable (m : (ℓ : Loc nD τ sig) → Buf (Elt F) ℓ)

/-- Entry `(r, k)` of the whole of `x`: row `r % 512` of device `r / 512`'s block. -/
def xrow (r k : ℕ) : Elt F .fp8e4m3 :=
  xstg m ⟨r / 512 % 8, Nat.mod_lt _ (by decide)⟩ (ix2 (⟨r % 512, Nat.mod_lt _ (by decide)⟩ : Fin 512) (⟨k % 4096, Nat.mod_lt _ (by decide)⟩ : Fin 4096))

/-- A buffer holds the rows of `x` from `R` on. -/
def Holds {n : ℕ} (a : (⟨2, ![n, 4096]⟩ : Shape).Idx → Elt F .fp8e4m3) (R : ℕ) : Prop :=
  ∀ i, a i = xrow m (R + (i 0).val) (i 1).val

variable (c : Dev nD)

theorem own_rows : Holds m (n := 512) (xstg m c) (512 * c.val) := fun i => by
  have h0 : (i 0).val < 512 := (i 0).isLt
  have h1 : (i 1).val < 4096 := (i 1).isLt
  have hc : c.val < 8 := c.isLt
  unfold xrow
  have hd : (⟨(512 * c.val + (i 0).val) / 512 % 8, Nat.mod_lt _ (by decide)⟩ : Dev nD) = c := Fin.ext (by show (512 * c.val + (i 0).val) / 512 % 8 = c.val; omega)
  rw [hd]
  refine congrArg (xstg m c) (Shape.idx_ext₂ ?_ ?_)
  · show (i 0).val = (512 * c.val + (i 0).val) % 512; omega
  · show (i 1).val = (i 1).val % 4096; omega

variable {m} in
/-- Some of the rows of a buffer. -/
theorem Holds.part {n n' R R' : ℕ} {a : (⟨2, ![n, 4096]⟩ : Shape).Idx → Elt F .fp8e4m3} (h : Holds m a R) (o : ℕ) (hR : R' = R + o)
    {b : (⟨2, ![n', 4096]⟩ : Shape).Idx → Elt F .fp8e4m3} (f : (⟨2, ![n', 4096]⟩ : Shape).Idx → (⟨2, ![n, 4096]⟩ : Shape).Idx)
    (hb : ∀ i, b i = a (f i)) (h0 : ∀ i, (f i 0).val = o + (i 0).val) (h1 : ∀ i, (f i 1).val = (i 1).val) : Holds m b R' := fun i => by
  rw [hb, h (f i), h0, h1, hR, Nat.add_assoc]

theorem top_rows : Holds m (n := 256) (top m c) (512 * c.val) :=
  (own_rows m c).part 0 rfl (fun i => (Rect.unit (s := S512x4096) ![0, 0] S256x4096.size inb_S512x4096_S256x4096_0_0).emb i) (fun _ => rfl)
    (fun i => by show 0 + 1 * (i 0).val = _; omega) (fun i => by show 0 + 1 * (i 1).val = _; omega)

theorem bot_rows : Holds m (n := 256) (bot m c) (512 * c.val + 256) :=
  (own_rows m c).part 256 rfl (fun i => (Rect.unit (s := S512x4096) ![256, 0] S256x4096.size inb_S512x4096_S256x4096_256_0).emb i) (fun _ => rfl)
    (fun i => by show 256 + 1 * (i 0).val = _; omega) (fun i => by show 0 + 1 * (i 1).val = _; omega)

/-- What slot 0 of a buffer of two slots holds, without its leading dimension; -/
theorem slot0_apply {α : Type} (a b : S256x4096.Idx → α) (h : S1x256x4096.ShapeCasts S256x4096) :
    shapeCast S256x4096 (fun i : S1x256x4096.Idx => two a b (rs0.emb i)) h = a := funext fun i => by
  refine (shapeCast_dropUnit_apply ![256, 4096] _ h i).trans ?_
  rw [two_zero _ _ _ (by show 0 + 1 * 0 = 0; rfl)]
  refine congrArg a (Shape.idx_ext₂ ?_ ?_)
  · show 0 + 1 * (i 0).val = (i 0).val; omega
  · show 0 + 1 * (i 1).val = (i 1).val; omega

/-- and slot 1. -/
theorem slot1_apply {α : Type} (a b : S256x4096.Idx → α) (h : S1x256x4096.ShapeCasts S256x4096) :
    shapeCast S256x4096 (fun i : S1x256x4096.Idx => two a b (rs1.emb i)) h = b := funext fun i => by
  refine (shapeCast_dropUnit_apply ![256, 4096] _ h i).trans ?_
  rw [two_one _ _ _ (by show 1 + 1 * 0 = 1; rfl)]
  refine congrArg b (Shape.idx_ext₂ ?_ ?_)
  · show 0 + 1 * (i 0).val = (i 0).val; omega
  · show 0 + 1 * (i 1).val = (i 1).val; omega

theorem z0V_eq : shapeCast S256x4096 (z0V m c) shapeCasts_S1x256x4096_S256x4096 = top m (zee c) := slot0_apply _ _ _
theorem z1V_eq : shapeCast S256x4096 (z1V m c) shapeCasts_S1x256x4096_S256x4096 = bot m (zee c) := slot1_apply _ _ _
theorem c0V_eq : shapeCast S256x4096 (c0V m c) shapeCasts_S1x256x4096_S256x4096 = tr2C m (zee c) := slot0_apply _ _ _
theorem c1V_eq : shapeCast S256x4096 (c1V m c) shapeCasts_S1x256x4096_S256x4096 = bl2C m (zee c) := slot1_apply _ _ _

/-- The first 64 rows of the top half that came from the left, -/
theorem scr_rows : Holds m (n := 64) (scrC m c) (512 * (lft c).val) :=
  (top_rows m (lft c)).part 0 rfl (fun i => (Rect.unit (s := S256x4096) ![0, 0] S64x4096.size inb_S256x4096_S64x4096_0_0).emb i)
    (fun i => by unfold scrC k0_pay6; rw [shapeCast_self]; rfl)
    (fun i => by show 0 + 1 * (i 0).val = _; omega) (fun i => by show 0 + 1 * (i 1).val = _; omega)

/-- the last 64 of the bottom half that came from the right, -/
theorem scl_rows : Holds m (n := 64) (sclC m c) (512 * (rgt c).val + 448) :=
  (bot_rows m (rgt c)).part 192 (by omega) (fun i => (Rect.unit (s := S256x4096) ![192, 0] S64x4096.size inb_S256x4096_S64x4096_192_0).emb i)
    (fun i => by unfold sclC k0_pay9; rw [shapeCast_self]; rfl)
    (fun i => by show 192 + 1 * (i 0).val = _; omega) (fun i => by show 0 + 1 * (i 1).val = _; omega)

/-- the last 192 rows of the top half from across, -/
theorem sbr_rows : Holds m (n := 192) (sbrC m c) (512 * (zee c).val + 64) :=
  (top_rows m (zee c)).part 64 rfl (fun i => ix2 (⟨64 + (i 0).val, by have : (i 0).val < 192 := (i 0).isLt; omega⟩ : Fin 256) (i 1))
    (fun i => by
      unfold sbrC k0_pay12
      rw [shapeCast_self]
      refine (shapeCast_dropUnit_apply ![192, 4096] _ shapeCasts_S1x192x4096_S192x4096 i).trans ?_
      show two (top m (zee c)) (bot m (zee c)) ((Rect.unit (s := S2x256x4096) ![0, 64, 0] S1x192x4096.size inb_S2x256x4096_S1x192x4096_0_64_0).emb (Fin.cons ⟨0, Nat.one_pos⟩ i)) = _
      rw [two_zero _ _ _ (by show 0 + 1 * 0 = 0; rfl)]
      refine congrArg (top m (zee c)) (Shape.idx_ext₂ ?_ ?_)
      · show 64 + 1 * (i 0).val = 64 + (i 0).val; omega
      · show 0 + 1 * (i 1).val = (i 1).val; omega)
    (fun _ => rfl) (fun _ => rfl)

/-- and the first 192 of the bottom half from across. -/
theorem sbl_rows : Holds m (n := 192) (sblC m c) (512 * (zee c).val + 256) :=
  (bot_rows m (zee c)).part 0 rfl (fun i => ix2 (⟨(i 0).val, by have : (i 0).val < 192 := (i 0).isLt; omega⟩ : Fin 256) (i 1))
    (fun i => by
      unfold sblC k0_pay13
      rw [shapeCast_self]
      refine (shapeCast_dropUnit_apply ![192, 4096] _ shapeCasts_S1x192x4096_S192x4096 i).trans ?_
      show two (top m (zee c)) (bot m (zee c)) ((Rect.unit (s := S2x256x4096) ![1, 0, 0] S1x192x4096.size inb_S2x256x4096_S1x192x4096_1_0_0).emb (Fin.cons ⟨0, Nat.one_pos⟩ i)) = _
      rw [two_one _ _ _ (by show 1 + 1 * 0 = 1; rfl)]
      refine congrArg (bot m (zee c)) (Shape.idx_ext₂ ?_ ?_)
      · show 0 + 1 * (i 0).val = (i 0).val; omega
      · show 0 + 1 * (i 1).val = (i 1).val; omega)
    (fun i => (Nat.zero_add _).symm) (fun _ => rfl)

end Cert.AllGather
-- ==== Proof.Value.lean ====
/-
# The result's value

Read at the extended reals, a device's result is its columns of the product of the whole of `x` with `w`, scaled and cut off below at zero.
-/
module

public import proofs.«01_k».proof.Proof.Rows
public import Idealize.ShloMosaic.Lib.MatmulPlain

@[expose] public section

noncomputable section

namespace Cert.AllGather

open Cert.KernelIdeal Cert.KernelIdeal.Gen
open Idealize.ShloMosaic Idealize.ShloMosaic.TcCoe
open Idealize.ShloMosaic.ValueIdx (ix2)
open scoped BigOperators

variable (m : (ℓ : Loc nD τ sig) → Buf (Elt Ideal) ℓ)

/-- A scaled product cut off below at zero, read at an index. -/
theorem relu_apply {M N : ℕ} {φ₁ φ₂ : FTy} (D : DotDims ⟨2, ![M, 4096]⟩ ⟨2, ![4096, N]⟩ ⟨2, ![M, N]⟩) (hD : D = DotDims.plain M 4096 N)
    (a : FVec Ideal ⟨2, ![M, 4096]⟩ φ₁) (b : FVec Ideal ⟨2, ![4096, N]⟩ φ₂) (s : Ideal .f32) (j : (⟨2, ![M, N]⟩ : Shape).Idx) :
    maximumf (mulf (matmul D none a b (constant _ .f32 0x00000000#32)) (broadcast _ s)) (broadcast _ (Scalar.ofBits .f32 0x00000000#32)) j
      = max ((∑ k : Fin 4096, (a (ix2 (j 0) k) : EReal) * b (ix2 k (j 1))) * s) 0 := by
  subst hD
  obtain ⟨r, q, rfl⟩ : ∃ (r : Fin M) (q : Fin N), j = ix2 r q := ⟨j 0, j 1, Shape.idx_ext₂ rfl rfl⟩
  show max (FloatOps.matmul (DotDims.plain M 4096 N) none a b (constant _ .f32 0x00000000#32) (ix2 r q) * s) (Ideal.ofBits .f32 0x00000000#32)
    = max ((∑ k : Fin 4096, (a (ix2 r k) : EReal) * b (ix2 k q)) * s) 0
  rw [Ideal.matmul_plain_apply, Ideal.ofBits_zero_f32]
  show max ((Ideal.ofBits .f32 0x00000000#32 + _) * s) 0 = _
  rw [Ideal.ofBits_zero_f32, zero_add]

/-- What device `c`'s result is at row `r` and column `q`: row `r` of `x` by column `q` of its block of `w`, scaled, cut off below at zero. -/
def goal (c : Dev nD) : Out Ideal := fun i =>
  max ((∑ k : Fin 4096, (xrow m (i 0).val k.val : EReal) * wstg m c (ix2 k (i 1))) * sc m c) 0

/-- A piece computed from the rows of `x` that it stores at is a piece of that. -/
theorem good {n : ℕ} (D : DotDims ⟨2, ![n, 4096]⟩ S4096x256 ⟨2, ![n, 256]⟩) (hD : D = DotDims.plain n 4096 256) (c : Dev nD) (R : ℕ)
    {off : Fin 2 → ℕ} (hoff : off = ![R, 0]) (inb : ∀ a, off a + (![n, 256] : Fin 2 → ℕ) a ≤ S4096x256.size a)
    {a : FVec Ideal ⟨2, ![n, 4096]⟩ .fp8e4m3} (ha : Holds m a R) (j : (⟨2, ![n, 256]⟩ : Shape).Idx) :
    maximumf (mulf (matmul (φ₁ := .bf16) (φ₂ := .bf16) D none (extf .bf16 a bitsLt_fp8e4m3_bf16) (wbC m c) (constant _ .f32 0x00000000#32))
        (broadcast _ (sc m c))) (broadcast _ (Scalar.ofBits .f32 0x00000000#32)) j
      = goal m c ((Rect.unit (s := S4096x256) off ![n, 256] inb).emb j) := by
  subst hoff
  rw [relu_apply D hD]
  unfold goal
  refine congrArg (fun t : EReal => max (t * sc m c) 0) (Finset.sum_congr rfl fun k _ => ?_)
  have h1 : (extf .bf16 a bitsLt_fp8e4m3_bf16 (ix2 (j 0) k) : EReal)
      = xrow m (R + 1 * (j 0).val) k.val := (ha (ix2 (j 0) k)).trans (by rw [Nat.one_mul]; rfl)
  have h2 : (wbC m c (ix2 k (j 1)) : EReal) = wstg m c (ix2 k ((Rect.unit (s := S4096x256) ![R, 0] ![n, 256] inb).emb j 1)) := by
    unfold wbC k0_pay4
    rw [shapeCast_self, shapeCast_self]
    refine congrArg (wstg m c) (Shape.idx_ext₂ rfl ?_)
    show (j 1).val = 0 + 1 * (j 1).val; omega
  rw [h1, h2]
  rfl

/-- Every piece of device `c`'s result is. -/
theorem pieces_good (c : Dev nD) : ∀ p ∈ pieces m c, ∀ j, p.w j = goal m c (p.r.emb j) := by
  unfold pieces
  simp only [List.forall_mem_cons, List.not_mem_nil, false_imp_iff, implies_true, and_true]
  refine ⟨?_, ?_, ?_, ?_, ?_, ?_, ?_, ?_, ?_, ?_, ?_, ?_, ?_, ?_, ?_, ?_, ?_⟩
  · unfold p1 k0_pay5; dsimp only; rw [shapeCast_self]
    exact good m _ rfl c _ (at_own c) (k0_off1_inb c) (own_rows m c)
  · exact good m dot_S256x4096_S4096x256_S256x256_1_0_0_1_n_n rfl c _ (at_top_lft c) (k0_off2_inb c 2) (top_rows m (lft c))
  · exact good m dot_S256x4096_S4096x256_S256x256_1_0_0_1_n_n rfl c _ (at_top_rgt c) (k0_off2_inb c 0) (top_rows m (rgt c))
  · exact good m dot_S256x4096_S4096x256_S256x256_1_0_0_1_n_n rfl c _ (at_bot_rgt c) (k0_off3_inb c 0) (bot_rows m (rgt c))
  · exact good m dot_S256x4096_S4096x256_S256x256_1_0_0_1_n_n rfl c _ (at_bot_lft c) (k0_off3_inb c 2) (bot_rows m (lft c))
  · unfold p6 k0_pay14; dsimp only; rw [z0V_eq]
    exact good m _ rfl c _ (at_top_zee c) (k0_off4_inb c) (top_rows m (zee c))
  · unfold p7 k0_pay15; dsimp only; rw [z1V_eq]
    exact good m _ rfl c _ (at_bot_zee c) (k0_off5_inb c) (bot_rows m (zee c))
  · exact good m dot_S256x4096_S4096x256_S256x256_1_0_0_1_n_n rfl c _ (at_top_opp c) (k0_off2_inb c 1) (top_rows m (lft (lft c)))
  · exact good m dot_S256x4096_S4096x256_S256x256_1_0_0_1_n_n rfl c _ (at_bot_opp c) (k0_off3_inb c 1) (bot_rows m (rgt (rgt c)))
  · exact good m dot_S192x4096_S4096x256_S192x256_1_0_0_1_n_n rfl c _ (at_top_zee_lft c) (k0_off6_inb c 0) (sbr_rows m (lft c))
  · exact good m dot_S256x4096_S4096x256_S256x256_1_0_0_1_n_n rfl c _ (at_bot_zee_lft c) (k0_off7_inb c 1) (bot_rows m (zee (lft c)))
  · exact good m dot_S256x4096_S4096x256_S256x256_1_0_0_1_n_n rfl c _ (at_top_zee_rgt c) (k0_off8_inb c 0) (top_rows m (zee (rgt c)))
  · exact good m dot_S192x4096_S4096x256_S192x256_1_0_0_1_n_n rfl c _ (at_bot_zee_rgt c) (k0_off6_inb c 1) (sbl_rows m (rgt c))
  · exact good m dot_S64x4096_S4096x256_S64x256_1_0_0_1_n_n rfl c _ (at_first_zee_lft c) (k0_off9_inb c) (scr_rows m (zee c))
  · exact good m dot_S64x4096_S4096x256_S64x256_1_0_0_1_n_n rfl c _ (at_last_zee_rgt c) (k0_off10_inb c) (scl_rows m (zee c))
  · unfold p16 k0_pay26; dsimp only; rw [c0V_eq]
    exact good m _ rfl c _ (at_top_zee_opp c) (k0_off8_inb c 1) (top_rows m (lft (lft (zee c))))
  · unfold p17 k0_pay27; dsimp only; rw [c1V_eq]
    exact good m _ rfl c _ (at_bot_zee_opp c) (k0_off7_inb c 0) (bot_rows m (rgt (rgt (zee c))))

theorem outC_goal (c : Dev nD) : outC m c = goal m c := outC_eq m c _ (pieces_good m c)

end Cert.AllGather
-- ==== Proof.RefValue.lean ====
/-
# The reference's value

Read at the extended reals, the reference's result is the product of `x` and `w`, scaled and cut off below at zero.
-/
module

public import proofs.«01_k».proof.Proof.Value
public import proofs.«01_k».proof.Proof.Whole
public import proofs.«01_k».proof.Proof.Gen.ReferenceIdeal.Value

@[expose] public section

noncomputable section

namespace Cert.RefValue

open Cert.ReferenceIdeal Cert.ReferenceIdeal.Gen Cert.ReferenceIdeal.Value
open Idealize.ShloMosaic Idealize.ShloMosaic.TcCoe Idealize.SL.Sem
open Idealize.ShloMosaic.ValueIdx (ix2)
open Cert.AllGather (relu_apply whole_emb one one_only one_zero)
open scoped BigOperators

/-- The result as a function of the four arguments: row by column, scaled, cut off below at zero. -/
def relu (x : Vec Ideal S4096x4096 .fp8e4m3) (w : Vec Ideal S4096x2048 .fp8e4m3) (sx sw : Vec Ideal S1 .f32) : Vec Ideal S4096x2048 .f32 :=
  fun i => max ((∑ k : Fin 4096, (x (ix2 (i 0) k) : EReal) * w (ix2 k (i 1))) * ((sx one : EReal) * sw one)) 0

theorem two_zeros : (![0, 0] : Fin 2 → ℕ) = fun _ => 0 := by decide

/-- What the body leaves in the output's buffer. -/
theorem out_relu (c : Dev nD) (a0 : Memref sig .tc .vmem S4096x4096 .fp8e4m3) (h0 : a0.IsWhole) (a1 : Memref sig .tc .vmem S4096x2048 .fp8e4m3) (h1 : a1.IsWhole)
    (a2 : Memref sig .tc .smem S1 .f32) (h2 : a2.IsWhole) (a3 : Memref sig .tc .smem S1 .f32) (h3 : a3.IsWhole)
    (a4 : Memref sig .tc .vmem S4096x2048 .f32) (h4 : a4.IsWhole)
    (x : Vec Ideal S4096x4096 .fp8e4m3) (w : Vec Ideal S4096x2048 .fp8e4m3) (sx sw : Vec Ideal S1 .f32) :
    out0_A_4 c a0 h0 a1 h1 a2 h2 a3 h3 a4 h4 x w sx sw = relu x w sx sw := by
  unfold out0_A_4
  rw [View.read_writes_junk_eq_canon]
  show View.canon ([⟨Rect.unit ![0, 0] S4096x2048.size inb_S4096x2048_S4096x2048_0_0,
      k0_pay1
        (View.readAt (Elt Ideal) a0.view (Rect.unit ![0, 0] S4096x4096.size inb_S4096x4096_S4096x4096_0_0).toLoadRect (h0.unread x))
        (View.readAt (Elt Ideal) a1.view (Rect.unit ![0, 0] S4096x2048.size inb_S4096x2048_S4096x2048_0_0).toLoadRect (h1.unread w))
        (View.readAt (Elt Ideal) a2.view (Rect.unit (s := S1) ![0] S1.size inb_S1_S1_0).toLoadRect (h2.unread sx) _)
        (View.readAt (Elt Ideal) a3.view (Rect.unit (s := S1) ![0] S1.size inb_S1_S1_0).toLoadRect (h3.unread sw) _)⟩] :
      List (View.Piece (Elt Ideal) S4096x2048 .f32)) = _
  rw [View.canon_unit_zero two_zeros]
  simp only [View.readAt_eq_ld, h0.read_unread, h1.read_unread, h2.read_unread, h3.read_unread]
  rw [View.ld_unit_zero (S := S4096x4096) two_zeros _ x, View.ld_unit_zero (S := S4096x2048) two_zeros _ w,
    View.ld_unit_zero (S := S1) one_zero _ sx, View.ld_unit_zero (S := S1) one_zero _ sw]
  funext i
  unfold k0_pay1
  refine (relu_apply dot_S4096x4096_S4096x2048_S4096x2048_1_0_0_1_n_n rfl _ _ _ i).trans ?_
  unfold relu
  refine congrArg (fun s : EReal => max ((∑ k : Fin 4096, (x (ix2 (i 0) k) : EReal) * w (ix2 k (i 1))) * s) 0) ?_
  exact congrArg₂ (fun a b : EReal => a * b) (congrArg sx (one_only _)) (congrArg sw (one_only _))

variable (m : (ℓ : Loc nD τ sig) → Buf (Elt Ideal) ℓ) (ρ : Dev nD → PrngReg)

theorem block_x (c : Dev nD) (t : Fin cfg0.N) : iblk m c 0 t = V m c main_arg0 :=
  funext fun j => congrArg (V m c main_arg0) (whole_emb (Memref.whole main_arg0) _ _ _ _ (Memref.isWhole_whole _) (hstage0_0 0) t j)
theorem block_w (c : Dev nD) (t : Fin cfg0.N) : iblk m c 1 t = V m c main_arg1 :=
  funext fun j => congrArg (V m c main_arg1) (whole_emb (Memref.whole main_arg1) _ _ _ _ (Memref.isWhole_whole _) (hstage0_1 0) t j)
theorem block_sx (c : Dev nD) (t : Fin cfg0.N) : iblk m c 2 t = V m c main_arg2 :=
  funext fun j => congrArg (V m c main_arg2) (whole_emb (Memref.whole main_arg2) _ _ _ _ (Memref.isWhole_whole _) (hstage0_2 0) t j)
theorem block_sw (c : Dev nD) (t : Fin cfg0.N) : iblk m c 3 t = V m c main_arg3 :=
  funext fun j => congrArg (V m c main_arg3) (whole_emb (Memref.whole main_arg3) _ _ _ _ (Memref.isWhole_whole _) (hstage0_3 0) t j)

/-- The result of the four arguments as device `c` is launched with them. -/
def result (c : Dev nD) : Vec Ideal S4096x2048 .f32 :=
  relu (m ((c : Thread nD τ).loc main_arg0)) (m ((c : Thread nD τ).loc main_arg1)) (m ((c : Thread nD τ).loc main_arg2)) (m ((c : Thread nD τ).loc main_arg3))

theorem written (c : Dev nD) (t : Fin cfg0.N) :
    (dats m 0 c).flushed 4 t = ((cfg0.win 4).blk t).view.read (Elt Ideal) (result m c) := by
  rw [flushed4_A, out_relu, block_x, block_w, block_sx, block_sw]
  exact funext fun j => congrArg (result m c) (whole_emb (Memref.whole main_v0) _ _ _ _ (Memref.isWhole_whole _) (hstage0_4 0) t j).symm

/-- The result array after the run. -/
theorem final (c : Dev nD) : (dats m 0 c).arrAt 4 cfg0.N = result m c :=
  (dats m 0 c).arrAt_eq_of_cover 4 (result m c) (fun t _ => written m c t) fun i =>
    ⟨t0_0, flush0_4 _, by
      have h := ((cfg0.win 4).blk t0_0).view.emb_mem_set i
      rwa [show ((cfg0.win 4).blk t0_0).view.emb i = i from whole_emb (Memref.whole main_v0) _ _ _ _ (Memref.isWhole_whole _) (hstage0_4 0) t0_0 i] at h⟩

end Cert.RefValue
-- ==== Proof.Match.lean ====
/-
# The two values

When the devices hold their blocks of the reference's arguments, each device's result is its block of the reference's.
-/
module

public import proofs.«01_k».proof.Proof.RefValue
public import Idealize.ShloMosaic.Lib.Layout

@[expose] public section

noncomputable section

namespace Cert.AllGather

open Cert.KernelIdeal Cert.KernelIdeal.Gen
open Idealize.ShloMosaic Idealize.ShloMosaic.TcCoe
open Idealize.ShloMosaic.ValueIdx (ix2)
open Cert.RefValue (relu)
open scoped BigOperators

section Staged

variable {F : FTy → Type} [FloatOps F]
variable (m : (ℓ : Loc nD τ sig) → Buf (Elt F) ℓ) (c : Dev nD)

/-- What is staged is the whole of each argument. -/
theorem x_staged : xstg m c = m ((c : Thread nD τ).loc main_arg0) :=
  funext fun j => congrArg (m ((c : Thread nD τ).loc main_arg0)) (whole_emb (Memref.whole main_arg0) _ _ _ _ (Memref.isWhole_whole _) (hstage0_0 0) _ j)
theorem w_staged : wstg m c = m ((c : Thread nD τ).loc main_arg1) :=
  funext fun j => congrArg (m ((c : Thread nD τ).loc main_arg1)) (whole_emb (Memref.whole main_arg1) _ _ _ _ (Memref.isWhole_whole _) (hstage0_1 0) _ j)
theorem sx_staged : sxstg m c = m ((c : Thread nD τ).loc main_arg2) :=
  funext fun j => congrArg (m ((c : Thread nD τ).loc main_arg2)) (whole_emb (Memref.whole main_arg2) _ _ _ _ (Memref.isWhole_whole _) (hstage0_2 0) _ j)
theorem sw_staged : swstg m c = m ((c : Thread nD τ).loc main_arg3) :=
  funext fun j => congrArg (m ((c : Thread nD τ).loc main_arg3)) (whole_emb (Memref.whole main_arg3) _ _ _ _ (Memref.isWhole_whole _) (hstage0_3 0) _ j)

end Staged

variable (m : (ℓ : Loc nD τ sig) → Buf (Elt Ideal) ℓ)
  (x : (⟨2, ![4096, 4096]⟩ : Shape).Idx → Elt Ideal .fp8e4m3) (w : (⟨2, ![4096, 2048]⟩ : Shape).Idx → Elt Ideal .fp8e4m3)
  (sx sw : (⟨1, ![1]⟩ : Shape).Idx → Elt Ideal .f32)

/-- The scale is the product of the two. -/
theorem scale_eq (c : Dev nD) (hsx : m ((c : Thread nD τ).loc main_arg2) = sx) (hsw : m ((c : Thread nD τ).loc main_arg3) = sw) :
    (sc m c : EReal) = (sx one : EReal) * sw one := by
  unfold sc k0_pay1
  rw [sx_staged, sw_staged, hsx, hsw]
  exact congrArg₂ (fun a b : EReal => a * b) (congrArg sx (one_only _)) (congrArg sw (one_only _))

/-- A row of `x`, wherever it is held, is that row of the reference's. -/
theorem xrow_eq (hx : ∀ c : Dev nD, m ((c : Thread nD τ).loc main_arg0) = Layout.block ⟨2, ![512, 4096]⟩ ⟨2, ![4096, 4096]⟩ 0 8 c x)
    (r k : Fin 4096) : xrow m r.val k.val = x (ix2 r k) := by
  unfold xrow
  rw [x_staged, hx]
  refine congrArg x (Shape.idx_ext₂ ?_ ?_)
  · show r.val / 512 % 8 * 512 + r.val % 512 = r.val
    have := r.isLt; omega
  · show k.val % 4096 = k.val
    exact Nat.mod_eq_of_lt k.isLt

/-- A device's result is its block of columns of the reference's. -/
theorem goal_block (hx : ∀ c : Dev nD, m ((c : Thread nD τ).loc main_arg0) = Layout.block ⟨2, ![512, 4096]⟩ ⟨2, ![4096, 4096]⟩ 0 8 c x)
    (c : Dev nD) (hw : m ((c : Thread nD τ).loc main_arg1) = Layout.block ⟨2, ![4096, 256]⟩ ⟨2, ![4096, 2048]⟩ 1 8 c w)
    (hsx : m ((c : Thread nD τ).loc main_arg2) = sx) (hsw : m ((c : Thread nD τ).loc main_arg3) = sw) :
    goal m c = Layout.block ⟨2, ![4096, 256]⟩ ⟨2, ![4096, 2048]⟩ 1 8 c (relu x w sx sw) := by
  funext i
  unfold goal
  rw [scale_eq m sx sw c hsx hsw, w_staged, hw, Layout.block_apply]
  unfold relu
  refine congrArg (fun t : EReal => max (t * ((sx one : EReal) * sw one)) 0) (Finset.sum_congr rfl fun k _ => ?_)
  rw [show xrow m (i 0).val k.val = x (ix2 (i 0) k) from xrow_eq m x hx (i 0) k]
  exact congrArg₂ (fun a b : EReal => a * b) rfl (congrArg w (Shape.idx_ext₂ rfl rfl))

end Cert.AllGather
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Match
public import Idealize.ShloMosaic.Adequacy
public import Idealize.ShloMosaic.Init

@[expose] public section

noncomputable section

namespace Cert.Proof

open Idealize.ShloMosaic Idealize.SL.Sem Cert.Kernel

open Cert.AllGather (run_kernel outC_goal goal_block)

/-- The kernel's frame, at the extended reals. -/
theorem frame_ideal : Cert.quiescent_KernelIdeal := fun m ρ _ =>
  (θ_run Cert.KernelIdeal.defs _ _).mono (fun _ h => ⟨fun c => (h.1 c).2, h.2⟩) (run_kernel (F := Ideal) m ρ)

/-- The two programs are one text: so are their bodies, -/
theorem body_same : @Cert.KernelIdeal.cc0_body Bits _ _ = @Cert.Kernel.cc0_body Bits _ _ := rfl

/-- the tables that call them, -/
theorem table_same : Cert.KernelIdeal.defs₀ (F := Bits) = Cert.Kernel.defs₀ (F := Bits) := by
  unfold Cert.KernelIdeal.defs₀ Cert.Kernel.defs₀
  refine congrArg Defs.onTc (funext fun l => ?_)
  match l with
  | 0 =>
    refine funext fun a => ?_
    obtain ⟨t, s⟩ := a
    rw [body_same]
  | ⟨_ + 1, h⟩ => exact absurd h (Nat.not_lt.2 (Nat.le_add_left _ _))

/-- and the tables with their pipelines. -/
theorem defs_same : Cert.KernelIdeal.defs (F := Bits) = Cert.Kernel.defs (F := Bits) :=
  congrArg (Pipeline.defs Cert.Kernel.pcfgs) table_same

/-- So the kernel's frame at the float formats is the same run once more. -/
theorem frame_kernel : Cert.quiescent_Kernel := fun m ρ _ => by
  have h := (θ_run Cert.KernelIdeal.defs _ _).mono (fun _ h => And.intro (fun c => (h.1 c).2) h.2) (run_kernel (F := Bits) m ρ)
  rw [defs_same] at h
  exact h

/-- The reference's. -/
theorem frame_reference : Cert.quiescent_ReferenceIdeal := fun m ρ _ => Cert.ReferenceIdeal.Gen.frame m ρ

/-- The kernel computes the reference's function. -/
theorem algebraic : Cert.algebraic_KernelIdeal_ReferenceIdeal := fun m ρ m' ρ' _ h =>
  ⟨Cert.RefValue.result m' 0,
    (θ_run Cert.KernelIdeal.defs _ _).mono (fun _ hr c => ⟨(hr.1 c).1.trans ((outC_goal m c).trans
      (goal_block m _ _ _ _ (fun d => (h d).1) c (h c).2.1 (h c).2.2.1 (h c).2.2.2)), (hr.1 c).2⟩) (run_kernel (F := Ideal) m ρ),
    (θ_run Cert.ReferenceIdeal.defs _ _).mono (fun _ hr => ⟨(hr 0).1.trans (Cert.RefValue.final m' 0), (hr 0).2⟩)
      (Cert.ReferenceIdeal.Value.run_blocks m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
